-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_xyz [hPre_finite_xyz : Cert.Pre_finite_xyz.Facts] (m : (ℓ : Loc Cert.KernelIdeal.nD Cert.KernelIdeal.τ Cert.KernelIdeal.sig) → Buf (Elt Ideal) ℓ) : Prop :=
  ∀ c : Dev Cert.KernelIdeal.nD,
    (Cert.Pre_finite_xyz.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_xyz [hPre_finite_xyz : Cert.Pre_finite_xyz.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_xyz.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_xyz [hKernelIdeal : Cert.KernelIdeal.Facts] [hPre_finite_xyz : Cert.Pre_finite_xyz.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_xyz m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_xyz [hReferenceIdeal : Cert.ReferenceIdeal.Facts] [hPre_finite_xyz : Cert.Pre_finite_xyz.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_xyz m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_xyz [hKernelIdeal : Cert.KernelIdeal.Facts] [hReferenceIdeal : Cert.ReferenceIdeal.Facts] [hPre_finite_xyz : Cert.Pre_finite_xyz.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_xyz m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_xyz : Cert.Pre_finite_xyz.Facts),
    quiescent_Kernel (hKernel := hKernel)
    ∧ quiescent_KernelIdeal (hKernelIdeal := hKernelIdeal)
    ∧ quiescent_KernelIdeal_pre_finite_xyz (hKernelIdeal := hKernelIdeal) (hPre_finite_xyz := hPre_finite_xyz)
    ∧ quiescent_ReferenceIdeal (hReferenceIdeal := hReferenceIdeal)
    ∧ quiescent_ReferenceIdeal_pre_finite_xyz (hReferenceIdeal := hReferenceIdeal) (hPre_finite_xyz := hPre_finite_xyz)
    ∧ preserves_Kernel_KernelIdeal
    ∧ algebraic_KernelIdeal_ReferenceIdeal_pre_finite_xyz (hKernelIdeal := hKernelIdeal) (hReferenceIdeal := hReferenceIdeal) (hPre_finite_xyz := hPre_finite_xyz)
-- ==== Pre_finite_xyz.lean ====
abbrev S16x2048x3 : Shape := ⟨3, ![16, 2048, 3]⟩
abbrev S16x2048x16 : Shape := ⟨3, ![16, 2048, 16]⟩
abbrev S19x64 : Shape := ⟨2, ![19, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S16x2048x3 : S_.BroadcastsInDim S16x2048x3 (![] : Fin 0 → Fin S16x2048x3.rank)

variable [Facts]

def fn {F : FTy → Type} [FloatOps F] (main_arg0 : FVec F S16x2048x3 .f32) (main_arg1 : FVec F S16x2048x16 .f32) (main_arg2 : FVec F S19x64 .f32) (main_arg3 : FVec F S64 .f32) (main_arg4 : FVec F S64x128 .f32) (main_arg5 : FVec F S128 .f32) (main_arg6 : FVec F S128x128 .f32) (main_arg7 : FVec F S128 .f32) : IVec S16x2048x3 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  main_v2
-- ==== Kernel.lean ====
abbrev S16x2048x3 : Shape := ⟨3, ![16, 2048, 3]⟩
abbrev S16x2048x16 : Shape := ⟨3, ![16, 2048, 16]⟩
abbrev S19x64 : Shape := ⟨2, ![19, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S16x3x2048 : Shape := ⟨3, ![16, 3, 2048]⟩
abbrev S16x512x3 : Shape := ⟨3, ![16, 512, 3]⟩
abbrev S16x1x2048 : Shape := ⟨3, ![16, 1, 2048]⟩
abbrev S16x2048 : Shape := ⟨2, ![16, 2048]⟩
abbrev S16x1 : Shape := ⟨2, ![16, 1]⟩
abbrev S16 : Shape := ⟨1, ![16]⟩
abbrev S16x3 : Shape := ⟨2, ![16, 3]⟩
abbrev S16x1x3 : Shape := ⟨3, ![16, 1, 3]⟩
abbrev S16x2048x19 : Shape := ⟨3, ![16, 2048, 19]⟩
abbrev S32768x19 : Shape := ⟨2, ![32768, 19]⟩
abbrev S1x64 : Shape := ⟨2, ![1, 64]⟩
abbrev S1x128 : Shape := ⟨2, ![1, 128]⟩
abbrev S32768x1 : Shape := ⟨2, ![32768, 1]⟩
abbrev S2048x19 : Shape := ⟨2, ![2048, 19]⟩
abbrev S2048x1 : Shape := ⟨2, ![2048, 1]⟩
abbrev S2048x64 : Shape := ⟨2, ![2048, 64]⟩
abbrev S2048x128 : Shape := ⟨2, ![2048, 128]⟩
abbrev S2048 : Shape := ⟨1, ![2048]⟩
abbrev S16x2048x32 : Shape := ⟨3, ![16, 2048, 32]⟩
abbrev S1x1024x3 : Shape := ⟨3, ![1, 1024, 3]⟩
abbrev S1x3x2048 : Shape := ⟨3, ![1, 3, 2048]⟩
abbrev S1x1x2048 : Shape := ⟨3, ![1, 1, 2048]⟩
abbrev S1x1024x32 : Shape := ⟨3, ![1, 1024, 32]⟩
abbrev S1024x2048 : Shape := ⟨2, ![1024, 2048]⟩
abbrev S1024x32 : Shape := ⟨2, ![1024, 32]⟩
abbrev S1024x3 : Shape := ⟨2, ![1024, 3]⟩
abbrev S3x2048 : Shape := ⟨2, ![3, 2048]⟩
abbrev S1024 : Shape := ⟨1, ![1024]⟩
abbrev S1024x1 : Shape := ⟨2, ![1024, 1]⟩
abbrev S1x2048 : Shape := ⟨2, ![1, 2048]⟩

abbrev nBuf : Space → Nat
  | .hbm => 18
  | .vmem => 22
  | .smem => 0
  | _ => 0

abbrev bufTy : (tb : Table) → Fin (tcTables nBuf tb) → BufTy
  | .hbm, ⟨0, _⟩ => ⟨S16x2048x3, .f32⟩
  | .hbm, ⟨1, _⟩ => ⟨S16x2048x16, .f32⟩
  | .hbm, ⟨2, _⟩ => ⟨S19x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S16x3x2048, .f32⟩
  | .hbm, ⟨9, _⟩ => ⟨S16x512x3, .f32⟩
  | .hbm, ⟨10, _⟩ => ⟨S16x2048x19, .f32⟩
  | .hbm, ⟨11, _⟩ => ⟨S32768x19, .f32⟩
  | .hbm, ⟨12, _⟩ => ⟨S1x64, .f32⟩
  | .hbm, ⟨13, _⟩ => ⟨S1x128, .f32⟩
  | .hbm, ⟨14, _⟩ => ⟨S1x128, .f32⟩
  | .hbm, ⟨15, _⟩ => ⟨S32768x1, .f32⟩
  | .hbm, ⟨16, _⟩ => ⟨S16x1x2048, .f32⟩
  | .hbm, ⟨17, _⟩ => ⟨S16x2048x32, .f32⟩
  | .local _ .vmem, ⟨0, _⟩ => ⟨S16x3x2048, .f32⟩
  | .local _ .vmem, ⟨1, _⟩ => ⟨S16x512x3, .f32⟩
  | .local _ .vmem, ⟨2, _⟩ => ⟨S2048x19, .f32⟩
  | .local _ .vmem, ⟨3, _⟩ => ⟨S2048x19, .f32⟩
  | .local _ .vmem, ⟨4, _⟩ => ⟨S19x64, .f32⟩
  | .local _ .vmem, ⟨5, _⟩ => ⟨S1x64, .f32⟩
  | .local _ .vmem, ⟨6, _⟩ => ⟨S64x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2048x1, .f32⟩
  | .local _ .vmem, ⟨11, _⟩ => ⟨S2048x1, .f32⟩
  | .local _ .vmem, ⟨12, _⟩ => ⟨S1x1024x3, .f32⟩
  | .local _ .vmem, ⟨13, _⟩ => ⟨S1x1024x3, .f32⟩
  | .local _ .vmem, ⟨14, _⟩ => ⟨S1x3x2048, .f32⟩
  | .local _ .vmem, ⟨15, _⟩ => ⟨S1x3x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1024x32, .f32⟩
  | .local _ .vmem, ⟨19, _⟩ => ⟨S1x1024x32, .f32⟩
  | .local _ .vmem, ⟨20, _⟩ => ⟨S1024x2048, .f32⟩
  | .local _ .vmem, ⟨21, _⟩ => ⟨S1024x32, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg7_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc2_scratch1 : Ref sig .tc := ⟨.vmem, 21, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem7_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := .none

@[reducible] def k0_t1_loop : Scf.Loop 32 :=
  let c0_i32_6 : BitVec 32 := 0#32
  let c512_i32 : BitVec 32 := 512#32
  let v9 : BitVec 32 := Scalar.addi c0_i32_6 c512_i32
  let c1_i32 : BitVec 32 := 1#32
  ⟨c0_i32_6, v9, c1_i32⟩
def k0_off1 (k0_t1 : Fin k0_t1_loop.trips) : Fin 3 → Nat :=
  let c0_14 : Index := 0#32
  let c0_i32_6 : BitVec 32 := 0#32
  let c1_i32 : BitVec 32 := 1#32
  let arg2 : BitVec 32 := Scf.iv c0_i32_6 c1_i32 k0_t1
  let v27 : Index := Scalar.indexCast arg2
  let c0_15 : Index := 0#32
  ![0, v27.toNat, 0]
abbrev stage0_0 : Fin 1 → Memref sig .tc .vmem S16x3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x512x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x19 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S19x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![16, 2], ![false, false]⟩

@[reducible] def k2_t1_loop : Scf.Loop 32 :=
  let c0_i32 : BitVec 32 := 0#32
  let c32_i32 : BitVec 32 := 32#32
  let v28 : BitVec 32 := Scalar.addi c0_i32 c32_i32
  let c1_i32 : BitVec 32 := 1#32
  ⟨c0_i32, v28, c1_i32⟩
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x3x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S16x2048x3 : Shape := ⟨3, ![16, 2048, 3]⟩
abbrev S16x2048x16 : Shape := ⟨3, ![16, 2048, 16]⟩
abbrev S19x64 : Shape := ⟨2, ![19, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S_ : Shape := ⟨0, ![]⟩
abbrev S16x512 : Shape := ⟨2, ![16, 512]⟩
abbrev S16x2048 : Shape := ⟨2, ![16, 2048]⟩
abbrev S16 : Shape := ⟨1, ![16]⟩
abbrev S1 : Shape := ⟨1, ![1]⟩
abbrev S16x1x1 : Shape := ⟨3, ![16, 1, 1]⟩
abbrev S16x1x3 : Shape := ⟨3, ![16, 1, 3]⟩
abbrev S16x512x1 : Shape := ⟨3, ![16, 512, 1]⟩
abbrev S16x512x3 : Shape := ⟨3, ![16, 512, 3]⟩
abbrev S16x2048x1 : Shape := ⟨3, ![16, 2048, 1]⟩
abbrev S16x1x2048 : Shape := ⟨3, ![16, 1, 2048]⟩
abbrev S16x2048x2048 : Shape := ⟨3, ![16, 2048, 2048]⟩
abbrev S16x2048x32 : Shape := ⟨3, ![16, 2048, 32]⟩
abbrev S16x65536x1 : Shape := ⟨3, ![16, 65536, 1]⟩
abbrev S16x65536x3 : Shape := ⟨3, ![16, 65536, 3]⟩
abbrev S16x65536x16 : Shape := ⟨3, ![16, 65536, 16]⟩
abbrev S16x65536x19 : Shape := ⟨3, ![16, 65536, 19]⟩
abbrev S16x65536x64 : Shape := ⟨3, ![16, 65536, 64]⟩
abbrev S1x1x64 : Shape := ⟨3, ![1, 1, 64]⟩
abbrev S16x65536x128 : Shape := ⟨3, ![16, 65536, 128]⟩
abbrev S1x1x128 : Shape := ⟨3, ![1, 1, 128]⟩
abbrev S16x65536 : Shape := ⟨2, ![16, 65536]⟩

abbrev nBuf : Space → Nat
  | .hbm => 123
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x16, .f32⟩
  | .hbm, ⟨2, _⟩ => ⟨S19x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S16x512, .i32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S_, .i32⟩
  | .hbm, ⟨16, _⟩ => ⟨S16, .i32⟩
  | .hbm, ⟨17, _⟩ => ⟨S_, .i32⟩
  | .hbm, ⟨18, _⟩ => ⟨S_, .i32⟩
  | .hbm, ⟨19, _⟩ => ⟨S16x2048x3, .f32⟩
  | .hbm, ⟨20, _⟩ => ⟨S_, .i32⟩
  | .hbm, ⟨21, _⟩ => ⟨S_, .i32⟩
  | .hbm, ⟨22, _⟩ => ⟨S16x512, .i32⟩
  | .hbm, ⟨23, _⟩ => ⟨S16x2048, .f32⟩
  | .hbm, ⟨24, _⟩ => ⟨S16, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1, .i32⟩
  | .hbm, ⟨36, _⟩ => ⟨S16x512, .i32⟩
  | .hbm, ⟨37, _⟩ => ⟨S16x1x1, .i32⟩
  | .hbm, ⟨38, _⟩ => ⟨S_, .i32⟩
  | .hbm, ⟨39, _⟩ => ⟨S16x1x1, .i32⟩
  | .hbm, ⟨40, _⟩ => ⟨S16x1x1, .i1⟩
  | .hbm, ⟨41, _⟩ => ⟨S_, .i32⟩
  | .hbm, ⟨42, _⟩ => ⟨S16x1x1, .i32⟩
  | .hbm, ⟨43, _⟩ => ⟨S16x1x1, .i32⟩
  | .hbm, ⟨44, _⟩ => ⟨S16x1x1, .i32⟩
  | .hbm, ⟨45, _⟩ => ⟨S16x1x3, .f32⟩
  | .hbm, ⟨46, _⟩ => ⟨S16x2048x3, .f32⟩
  | .hbm, ⟨47, _⟩ => ⟨S16x2048x3, .f32⟩
  | .hbm, ⟨48, _⟩ => ⟨S16x2048x3, .f32⟩
  | .hbm, ⟨49, _⟩ => ⟨S_, .f32⟩
  | .hbm, ⟨50, _⟩ => ⟨S16x2048, .f32⟩
  | .hbm, ⟨51, _⟩ => ⟨S16x2048, .f32⟩
  | .hbm, ⟨52, _⟩ => ⟨S16x2048, .i32⟩
  | .hbm, ⟨53, _⟩ => ⟨S_, .f32⟩
  | .hbm, ⟨54, _⟩ => ⟨S_, .i32⟩
  | .hbm, ⟨55, _⟩ => ⟨S16, .f32⟩
  | .hbm, ⟨56, _⟩ => ⟨S16, .i32⟩
  | .hbm, ⟨57, _⟩ => ⟨S_, .i32⟩
  | .hbm, ⟨58, _⟩ => ⟨S_, .i32⟩
  | .hbm, ⟨59, _⟩ => ⟨S16x512x1, .i32⟩
  | .hbm, ⟨60, _⟩ => ⟨S_, .i32⟩
  | .hbm, ⟨61, _⟩ => ⟨S16x512x1, .i32⟩
  | .hbm, ⟨62, _⟩ => ⟨S16x512x1, .i1⟩
  | .hbm, ⟨63, _⟩ => ⟨S_, .i32⟩
  | .hbm, ⟨64, _⟩ => ⟨S16x512x1, .i32⟩
  | .hbm, ⟨65, _⟩ => ⟨S16x512x1, .i32⟩
  | .hbm, ⟨66, _⟩ => ⟨S16x512x1, .i32⟩
  | .hbm, ⟨67, _⟩ => ⟨S16x512x3, .f32⟩
  | .hbm, ⟨68, _⟩ => ⟨S16x2048x3, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S16x1x2048, .f32⟩
  | .hbm, ⟨73, _⟩ => ⟨S16x2048x2048, .f32⟩
  | .hbm, ⟨74, _⟩ => ⟨S16x2048x2048, .f32⟩
  | .hbm, ⟨75, _⟩ => ⟨S16x2048x2048, .f32⟩
  | .hbm, ⟨76, _⟩ => ⟨S16x2048x2048, .f32⟩
  | .hbm, ⟨77, _⟩ => ⟨S_, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S16x2048x2048, .f32⟩
  | .hbm, ⟨82, _⟩ => ⟨S16x2048x32, .f32⟩
  | .hbm, ⟨83, _⟩ => ⟨S16x2048x32, .i32⟩
  | .hbm, ⟨84, _⟩ => ⟨S16x65536x1, .i32⟩
  | .hbm, ⟨85, _⟩ => ⟨S_, .i32⟩
  | .hbm, ⟨86, _⟩ => ⟨S16x65536x1, .i32⟩
  | .hbm, ⟨87, _⟩ => ⟨S16x65536x1, .i1⟩
  | .hbm, ⟨88, _⟩ => ⟨S_, .i32⟩
  | .hbm, ⟨89, _⟩ => ⟨S16x65536x1, .i32⟩
  | .hbm, ⟨90, _⟩ => ⟨S16x65536x1, .i32⟩
  | .hbm, ⟨91, _⟩ => ⟨S16x65536x1, .i32⟩
  | .hbm, ⟨92, _⟩ => ⟨S16x65536x3, .f32⟩
  | .hbm, ⟨93, _⟩ => ⟨S_, .i32⟩
  | .hbm, ⟨94, _⟩ => ⟨S16x65536x1, .i32⟩
  | .hbm, ⟨95, _⟩ => ⟨S16x65536x1, .i1⟩
  | .hbm, ⟨96, _⟩ => ⟨S_, .i32⟩
  | .hbm, ⟨97, _⟩ => ⟨S16x65536x1, .i32⟩
  | .hbm, ⟨98, _⟩ => ⟨S16x65536x1, .i32⟩
  | .hbm, ⟨99, _⟩ => ⟨S16x65536x1, .i32⟩
  | .hbm, ⟨100, _⟩ => ⟨S16x65536x16, .f32⟩
  | .hbm, ⟨101, _⟩ => ⟨S16x65536x19, .f32⟩
  | .hbm, ⟨102, _⟩ => ⟨S16x65536x64, .f32⟩
  | .hbm, ⟨103, _⟩ => ⟨S1x1x64, .f32⟩
  | .hbm, ⟨104, _⟩ => ⟨S16x65536x64, .f32⟩
  | .hbm, ⟨105, _⟩ => ⟨S16x65536x64, .f32⟩
  | .hbm, ⟨106, _⟩ => ⟨S_, .f32⟩
  | .hbm, ⟨107, _⟩ => ⟨S16x65536x64, .f32⟩
  | .hbm, ⟨108, _⟩ => ⟨S16x65536x64, .f32⟩
  | .hbm, ⟨109, _⟩ => ⟨S16x65536x128, .f32⟩
  | .hbm, ⟨110, _⟩ => ⟨S1x1x128, .f32⟩
  | .hbm, ⟨111, _⟩ => ⟨S16x65536x128, .f32⟩
  | .hbm, ⟨112, _⟩ => ⟨S16x65536x128, .f32⟩
  | .hbm, ⟨113, _⟩ => ⟨S_, .f32⟩
  | .hbm, ⟨114, _⟩ => ⟨S16x65536x128, .f32⟩
  | .hbm, ⟨115, _⟩ => ⟨S16x65536x128, .f32⟩
  | .hbm, ⟨116, _⟩ => ⟨S16x65536x128, .f32⟩
  | .hbm, ⟨117, _⟩ => ⟨S1x1x128, .f32⟩
  | .hbm, ⟨118, _⟩ => ⟨S16x65536x128, .f32⟩
  | .hbm, ⟨119, _⟩ => ⟨S16x65536x128, .f32⟩
  | .hbm, ⟨120, _⟩ => ⟨S_, .f32⟩
  | .hbm, ⟨121, _⟩ => ⟨S16x65536, .f32⟩
  | .hbm, ⟨122, _⟩ => ⟨S16x2048x32, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_c_2 : Ref sig .tc := ⟨.hbm, 17, rfl⟩
abbrev main_c_3 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v5_4 : Ref sig .tc := ⟨.hbm, 23, rfl⟩
abbrev main_v5_5 : Ref sig .tc := ⟨.hbm, 24, rfl⟩
abbrev main_while0c_c_12 : Ref sig .tc := ⟨.hbm, 25, rfl⟩
abbrev main_while0c_v40 : Ref sig .tc := ⟨.hbm, 26, rfl⟩
abbrev main_while0b_c_12 : Ref sig .tc := ⟨.hbm, 27, rfl⟩
abbrev main_while0b_v40 : Ref sig .tc := ⟨.hbm, 28, rfl⟩
abbrev main_while0b_c_13 : Ref sig .tc := ⟨.hbm, 29, rfl⟩
abbrev main_while0b_v41 : Ref sig .tc := ⟨.hbm, 30, rfl⟩
abbrev main_while0b_c_14 : Ref sig .tc := ⟨.hbm, 31, rfl⟩
abbrev main_while0b_v42 : Ref sig .tc := ⟨.hbm, 32, rfl⟩
abbrev main_while0b_v43 : Ref sig .tc := ⟨.hbm, 33, rfl⟩
abbrev main_while0b_v44 : Ref sig .tc := ⟨.hbm, 34, rfl⟩
abbrev main_while0b_v45 : Ref sig .tc := ⟨.hbm, 35, rfl⟩
abbrev main_while0b_v46 : Ref sig .tc := ⟨.hbm, 36, rfl⟩
abbrev main_while0b_v47 : Ref sig .tc := ⟨.hbm, 37, rfl⟩
abbrev main_while0b_call0_c : Ref sig .tc := ⟨.hbm, 38, rfl⟩
abbrev main_while0b_call0_v0 : Ref sig .tc := ⟨.hbm, 39, rfl⟩
abbrev main_while0b_call0_v1 : Ref sig .tc := ⟨.hbm, 40, rfl⟩
abbrev main_while0b_call0_c_0 : Ref sig .tc := ⟨.hbm, 41, rfl⟩
abbrev main_while0b_call0_v2 : Ref sig .tc := ⟨.hbm, 42, rfl⟩
abbrev main_while0b_call0_v3 : Ref sig .tc := ⟨.hbm, 43, rfl⟩
abbrev main_while0b_call0_v4 : Ref sig .tc := ⟨.hbm, 44, rfl⟩
abbrev main_while0b_v48 : Ref sig .tc := ⟨.hbm, 45, rfl⟩
abbrev main_while0b_v49 : Ref sig .tc := ⟨.hbm, 46, rfl⟩
abbrev main_while0b_v50 : Ref sig .tc := ⟨.hbm, 47, rfl⟩
abbrev main_while0b_v51 : Ref sig .tc := ⟨.hbm, 48, rfl⟩
abbrev main_while0b_cst_15 : Ref sig .tc := ⟨.hbm, 49, rfl⟩
abbrev main_while0b_v52 : Ref sig .tc := ⟨.hbm, 50, rfl⟩
abbrev main_while0b_v53 : Ref sig .tc := ⟨.hbm, 51, rfl⟩
abbrev main_while0b_call1_v0 : Ref sig .tc := ⟨.hbm, 52, rfl⟩
abbrev main_while0b_call1_cst : Ref sig .tc := ⟨.hbm, 53, rfl⟩
abbrev main_while0b_call1_c : Ref sig .tc := ⟨.hbm, 54, rfl⟩
abbrev main_while0b_call1_v1_0 : Ref sig .tc := ⟨.hbm, 55, rfl⟩
abbrev main_while0b_v54 : Ref sig .tc := ⟨.hbm, 56, rfl⟩
abbrev main_while0b_c_16 : Ref sig .tc := ⟨.hbm, 57, rfl⟩
abbrev main_while0b_v55 : Ref sig .tc := ⟨.hbm, 58, rfl⟩
abbrev main_v6 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v7 : Ref sig .tc := ⟨.hbm, 67, rfl⟩
abbrev main_v8 : Ref sig .tc := ⟨.hbm, 68, rfl⟩
abbrev main_cst_4 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_cst_5 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_values : Ref sig .tc := ⟨.hbm, 82, rfl⟩
abbrev main_indices : Ref sig .tc := ⟨.hbm, 83, rfl⟩
abbrev main_v20 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v21 : Ref sig .tc := ⟨.hbm, 92, rfl⟩
abbrev main_call4_c : Ref sig .tc := ⟨.hbm, 93, rfl⟩
abbrev main_call4_v0 : Ref sig .tc := ⟨.hbm, 94, rfl⟩
abbrev main_call4_v1 : Ref sig .tc := ⟨.hbm, 95, rfl⟩
abbrev main_call4_c_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_call5_cst : Ref sig .tc := ⟨.hbm, 106, rfl⟩
abbrev main_call5_v0 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_call6_cst : Ref sig .tc := ⟨.hbm, 113, rfl⟩
abbrev main_call6_v0 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_cst_6 : Ref sig .tc := ⟨.hbm, 120, rfl⟩
abbrev main_v38 : Ref sig .tc := ⟨.hbm, 121, rfl⟩
abbrev main_v39 : Ref sig .tc := ⟨.hbm, 122, rfl⟩

abbrev nD : Nat := 1
abbrev τ : Topo := Topo.v7x

variable {F : FTy → Type} [FloatOps F]

abbrev main_while0_count : Scf.Loop 32 := ⟨0#32, 512#32, 1#32⟩
-- ==== Proof.Ker.Run.lean ====
/- The idealized kernel's run with its two results: the launch over the six segments of @main, read at every unscoped
   buffer, and each result's buffer followed back to the region that writes it. -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- Every weakly fair execution of @main terminates with every unscoped buffer at the last boundary's contents. -/
theorem runAt : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

/-- What the first region leaves in its output array stands at the end: nothing later writes it. -/
theorem W6_v1 (c : Dev nD) : W6 m ρ c (Proc.devRef .tc main_v1) = (dat0 (V1 m ρ) c).arrAt 1 cfg0.N :=
  (W6_of m ρ c main_v1 (by decide)).trans <| (W5_of m ρ c main_v1 (by decide)).trans <|
    (W4_of m ρ c main_v1 (by decide)).trans <| (W3_of m ρ c main_v1 (by decide)).trans (W2_arr m ρ c 1)

/-- What the third region leaves in its output array stands at the end. -/
theorem W6_v9 (c : Dev nD) : W6 m ρ c (Proc.devRef .tc main_v9) = (dat2 (V5 m ρ) c).arrAt 3 cfg2.N :=
  W6_arr m ρ c 3

/-- The run, result by result: the first result is the first region's output array, the second the third region's, and
    every argument array is as launched. -/
theorem run : θ_run defs (onTc (τ := τ) (main (F := F))) ⟨m, fun _ => 0, ρ⟩ (fun r => ∀ c : Dev nD,
      r.2.mem ((c.tc : Thread nD τ).loc main_v1) = (dat0 (V1 m ρ) c).arrAt 1 cfg0.N
      ∧ r.2.mem ((c.tc : Thread nD τ).loc main_v9) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v1 (by decide))).trans (W6_v1 m ρ c),
     (h c _ (mem_uc main_v9 (by decide))).trans (W6_v9 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (runAt m ρ)

end Cert.KernelIdeal.Run

end
-- ==== Proof.Ker.Fps.lean ====
/- The first kernel's output array: row `r` of it is the coordinates of the point selected after `r` trips of the loop. -/
module

public import proofs.«01_k».proof.Proof.Gen.KernelIdeal.Frame
public import Idealize.ShloMosaic.Lib.Pipeline.ValueKit

@[expose] public section

set_option maxRecDepth 16384

noncomputable section

namespace Cert.KernelIdeal.Fps

open Idealize.ShloMosaic Idealize.ShloMosaic.TcCoe Idealize.SL.Sem
open Idealize.ShloMosaic.Pipeline (Dat)
open Cert.KernelIdeal Cert.KernelIdeal.Gen

variable {F : FTy → Type} [FloatOps F]

/-- The carried pair (distance to the nearest selected point, point selected next) after `n` trips. -/
def state (x0 x1 x2 : Vec F S16x1x2048 .f32) : ℕ → FVec F S16x2048 .f32 × IVec S16x1 32
  | 0 => (k0_pay4, k0_pay5)
  | n + 1 => (k0_pay11 x0 x1 x2 (state x0 x1 x2 n).1 (state x0 x1 x2 n).2, k0_pay12 x0 x1 x2 (state x0 x1 x2 n).1 (state x0 x1 x2 n).2)

section
variable (𝒱 : Variants) (c : Dev nD) (bd : Option 𝒱.V) (arg0 : Memref sig .tc .vmem S16x3x2048 .f32) (harg0 : arg0.IsWhole)
  (arg1 : Memref sig .tc .vmem S16x512x3 .f32) (harg1 : arg1.IsWhole) (x0 x1 x2 : Vec F S16x1x2048 .f32)

theorem trip_res (k : Fin k0_t1_loop.trips) (acc : FVec F S16x2048 .f32 × IVec S16x1 32) :
    tripR_k0_t1 𝒱 c bd arg0 harg0 arg1 harg1 x0 x1 x2 k acc = (k0_pay11 x0 x1 x2 acc.1 acc.2, k0_pay12 x0 x1 x2 acc.1 acc.2) := by
  unfold tripR_k0_t1 trip_k0_t1
  rfl

theorem trip_pcs (k : Fin k0_t1_loop.trips) (acc : FVec F S16x2048 .f32 × IVec S16x1 32) :
    tripL_k0_t1 𝒱 c bd arg0 harg0 arg1 harg1 x0 x1 x2 k acc
      = [⟨Rect.unit (s := S16x512x3) (k0_off1 k) S16x1x3.size (k0_off1_inb k), k0_pay10 x0 x1 x2 acc.2⟩] := by
  unfold tripL_k0_t1 trip_k0_t1
  rfl

/-- The loop's state before trip `n`: the carried pair is `state n`, and each stored piece is row `k` at `state k`. -/
theorem st_spec : ∀ n, n ≤ k0_t1_loop.trips →
    (st_k0_t1 𝒱 c bd arg0 harg0 arg1 harg1 x0 x1 x2 (k0_pay4, k0_pay5) n).1 = state x0 x1 x2 n
    ∧ ∀ p ∈ (st_k0_t1 𝒱 c bd arg0 harg0 arg1 harg1 x0 x1 x2 (k0_pay4, k0_pay5) n).2, ∃ k : Fin k0_t1_loop.trips,
        p = ⟨Rect.unit (s := S16x512x3) (k0_off1 k) S16x1x3.size (k0_off1_inb k), k0_pay10 x0 x1 x2 (state x0 x1 x2 k.val).2⟩
  | 0, _ => ⟨rfl, fun p hp => absurd hp List.not_mem_nil⟩
  | n + 1, h => by
    obtain ⟨h1, h2⟩ := st_spec n (Nat.le_of_succ_le h)
    have e := st_k0_t1_succ 𝒱 c bd arg0 harg0 arg1 harg1 x0 x1 x2 (k0_pay4, k0_pay5) ⟨n, h⟩
    dsimp only at e
    rw [e, trip_res, trip_pcs, h1]
    refine ⟨rfl, fun p hp => ?_⟩
    rcases List.mem_append.mp hp with hp | hp
    · exact ⟨⟨n, h⟩, List.mem_singleton.mp hp⟩
    · exact h2 p hp

end

/-- Row `r` of the output, whichever batch entry and coordinate. -/
def rows (x0 x1 x2 : Vec F S16x1x2048 .f32) : Vec F S16x512x3 .f32 :=
  fun j => k0_pay10 x0 x1 x2 (state x0 x1 x2 (j 1 : ℕ)).2 (ix3 (j 0) 0 (j 2))

theorem off_val (k : Fin k0_t1_loop.trips) : k0_off1 k = ![0, k.val, 0] := by
  have : ∀ k : Fin k0_t1_loop.trips, k0_off1 k = ![0, k.val, 0] := by decide +kernel
  exact this k

theorem rows_at (x0 x1 x2 : Vec F S16x1x2048 .f32) (k : Fin k0_t1_loop.trips) (u : S16x1x3.Idx) :
    rows x0 x1 x2 ((Rect.unit (s := S16x512x3) (k0_off1 k) S16x1x3.size (k0_off1_inb k)).emb u)
      = k0_pay10 x0 x1 x2 (state x0 x1 x2 k.val).2 u := by
  have hv : ∀ a, (((Rect.unit (s := S16x512x3) (k0_off1 k) S16x1x3.size (k0_off1_inb k)).emb u) a : ℕ) = ![0, k.val, 0] a + (u a : ℕ) := by
    intro a; rw [← off_val k]; blk_simp
  generalize (Rect.unit (s := S16x512x3) (k0_off1 k) S16x1x3.size (k0_off1_inb k)).emb u = j at hv
  have h0 : (j 0 : ℕ) = 0 + (u 0 : ℕ) := hv 0
  have h1 : (j 1 : ℕ) = k.val + (u 1 : ℕ) := hv 1
  have h2 : (j 2 : ℕ) = 0 + (u 2 : ℕ) := hv 2
  have hu : (u 1 : ℕ) < 1 := (u 1).isLt
  unfold rows
  rw [h1, show k.val + (u 1 : ℕ) = k.val by omega]
  refine congrArg _ ?_
  blk_ext

/-- What the body leaves in the output's staging buffer. -/
theorem out_rows (c : Dev nD) (arg0 : Memref sig .tc .vmem S16x3x2048 .f32) (harg0 : arg0.IsWhole)
    (arg1 : Memref sig .tc .vmem S16x512x3 .f32) (harg1 : arg1.IsWhole) (x : Vec F S16x3x2048 .f32) :
    out0_A_1 c arg0 harg0 arg1 harg1 x
      = rows (fun i => x (ix3 (i 0) 0 (i 2))) (fun i => x (ix3 (i 0) 1 (i 2))) (fun i => x (ix3 (i 0) 2 (i 2))) := by
  funext y
  unfold out0_A_1
  refine View.read_writes_apply_of_pieces _ _ _ _ ?_ y (cover0_A_1 c arg0 harg0 arg1 harg1 x y)
  unfold kernelRun0_A
  dsimp only
  have e0 : View.readAt (Elt F) arg0.view (Rect.unit (s := S16x3x2048) ![0, 0, 0] ![16, 1, 2048] inb_S16x3x2048_S16x1x2048_0_0_0).toLoadRect (harg0.unread x)
      = (fun i => x (ix3 (i 0) 0 (i 2)) : Vec F S16x1x2048 .f32) := by
    funext i; refine (congrFun (harg0.read_unread x) _).trans ?_
    change x ((Rect.unit (s := S16x3x2048) ![0, 0, 0] ![16, 1, 2048] inb_S16x3x2048_S16x1x2048_0_0_0).emb i) = _; blk_ext
  have e1 : View.readAt (Elt F) arg0.view (Rect.unit (s := S16x3x2048) ![0, 1, 0] ![16, 1, 2048] inb_S16x3x2048_S16x1x2048_0_1_0).toLoadRect (harg0.unread x)
      = (fun i => x (ix3 (i 0) 1 (i 2)) : Vec F S16x1x2048 .f32) := by
    funext i; refine (congrFun (harg0.read_unread x) _).trans ?_
    change x ((Rect.unit (s := S16x3x2048) ![0, 1, 0] ![16, 1, 2048] inb_S16x3x2048_S16x1x2048_0_1_0).emb i) = _; blk_ext
  have e2 : View.readAt (Elt F) arg0.view (Rect.unit (s := S16x3x2048) ![0, 2, 0] ![16, 1, 2048] inb_S16x3x2048_S16x1x2048_0_2_0).toLoadRect (harg0.unread x)
      = (fun i => x (ix3 (i 0) 2 (i 2)) : Vec F S16x1x2048 .f32) := by
    funext i; refine (congrFun (harg0.read_unread x) _).trans ?_
    change x ((Rect.unit (s := S16x3x2048) ![0, 2, 0] ![16, 1, 2048] inb_S16x3x2048_S16x1x2048_0_2_0).emb i) = _; blk_ext
  intro p hp u
  obtain ⟨k, rfl⟩ := (st_spec Variants.none c none arg0 harg0 arg1 harg1 _ _ _ _ (le_refl _)).2 p hp
  simp only [e0, e1, e2]
  generalize (fun i => x (ix3 (i 0) 0 (i 2)) : Vec F S16x1x2048 .f32) = X0
  generalize (fun i => x (ix3 (i 0) 1 (i 2)) : Vec F S16x1x2048 .f32) = X1
  generalize (fun i => x (ix3 (i 0) 2 (i 2)) : Vec F S16x1x2048 .f32) = X2
  exact (rows_at X0 X1 X2 k u).symm

section
variable (m : (ℓ : Loc nD τ sig) → Buf (Elt F) ℓ) (ρ : Dev nD → PrngReg)

theorem entry_v0 (c : Dev nD) (i : S16x3x2048.Idx) : V1 m ρ c main_v0 i = m ((c : Thread nD τ).loc main_arg0) (ix3 (i 0) (i 2) (i 1)) := by
  show StableHlo.after hostOps0 (W0 m ρ c) (Proc.devRef .tc main_v0) i = _
  entry_read
  idx_vars i
  pointwise

theorem idx : ∀ t : Fin cfg0.N, win0_0.index t = ![0, 0, 0] := (by decide +kernel : ∀ t : Fin grid0.N, _)

/-- The first result: row `r` is the coordinates of the point selected after `r` trips over the launch's points. -/
theorem final (c : Dev nD) : (dat0 (V1 m ρ) c).arrAt 1 cfg0.N
    = rows (fun i => m ((c : Thread nD τ).loc main_arg0) (ix3 (i 0) (i 2) 0)) (fun i => m ((c : Thread nD τ).loc main_arg0) (ix3 (i 0) (i 2) 1))
        (fun i => m ((c : Thread nD τ).loc main_arg0) (ix3 (i 0) (i 2) 2)) := by
  refine (dat0 (V1 m ρ) c).arrAt_eq_of_after_last 1 t0_0 (by decide +kernel) _ fun j => ?_
  blk_simp
  rw [after0_1]
  unfold outsAt0
  rw [out_rows]
  have hx : ∀ i : S16x3x2048.Idx, iblk0 (V1 m ρ) c 0 t0_0 i = m ((c : Thread nD τ).loc main_arg0) (ix3 (i 0) (i 2) (i 1)) := by
    intro i
    refine Eq.trans ?_ (entry_v0 m ρ c i)
    blk_ext [iblk0, idx t0_0]
  simp only [hx]
  refine congrFun (congr (congr (congrArg (rows (F := F)) (funext fun i => ?_)) (funext fun i => ?_)) (funext fun i => ?_)) _
  all_goals rfl
end

end Cert.KernelIdeal.Fps

end
-- ==== Proof.Ref.Loop.lean ====
/- The reference's run, first half: @main as its stretches of host operations round one counted host loop of 512 trips,
   what each stretch writes, the loop's counter, and `run_fold`: every weakly fair execution terminates with every
   unscoped buffer at the fold of the stretches. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 17 host operations of @main, in order. -/
abbrev hostOps0 : List (HloOp τ sig (Elt F)) :=
  [ StableHlo.nullary main_c (constantI S_ 32 0#32),
    StableHlo.unary main_c main_v0 (broadcastInDim S16x512 ![] bcast_S_S16x512 : (⟨S_, .i32⟩ : BufTy).Contents (Elt F) → (⟨S16x512, .i32⟩ : BufTy).Contents (Elt F)),
    StableHlo.nullary main_cst (constant S_ .f32 0x3F800000#32),
    StableHlo.unary main_cst main_v1 (broadcastInDim S16x2048 ![] bcast_S_S16x2048 : (⟨S_, .f32⟩ : BufTy).Contents (Elt F) → (⟨S16x2048, .f32⟩ : BufTy).Contents (Elt F)),
    StableHlo.nullary main_cst_0 (constant S_ .f32 0x501502F9#32),
    StableHlo.unary main_cst_0 main_v2 (broadcastInDim S16x2048 ![] bcast_S_S16x2048 : (⟨S_, .f32⟩ : BufTy).Contents (Elt F) → (⟨S16x2048, .f32⟩ : BufTy).Contents (Elt F)),
    StableHlo.binary main_v1 main_v2 main_v3 (mulf : (⟨S16x2048, .f32⟩ : BufTy).Contents (Elt F) → (⟨S16x2048, .f32⟩ : BufTy).Contents (Elt F) → (⟨S16x2048, .f32⟩ : BufTy).Contents (Elt F)),
    StableHlo.nullary main_c_1 (constantI S_ 32 0#32),
    StableHlo.unary main_c_1 main_v4 (broadcastInDim S16 ![] bcast_S_S16 : (⟨S_, .i32⟩ : BufTy).Contents (Elt F) → (⟨S16, .i32⟩ : BufTy).Contents (Elt F)),
    StableHlo.nullary main_c_2 (constantI S_ 32 0#32),
    StableHlo.nullary main_c_3 (constantI S_ 32 0#32),
    StableHlo.unary main_arg0 main_v5_0 id,
    StableHlo.unary main_c_3 main_v5_1 id,
    StableHlo.unary main_c_2 main_v5_2 id,
    StableHlo.unary main_v0 main_v5_3 id,
    StableHlo.unary main_v3 main_v5_4 id,
    StableHlo.unary main_v4 main_v5_5 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, in order. -/
abbrev hostOps0_1 : List (HloOp τ sig (Elt F)) :=
  [ StableHlo.unary main_v5_3 main_v6 (broadcastInDim S16x512x1 ![0, 1] bcast_S16x512_S16x512x1_0_1 : (⟨S16x512, .i32⟩ : BufTy).Contents (Elt F) → (⟨S16x512x1, .i32⟩ : BufTy).Contents (Elt F)) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  StableHlo.unary_bufs_sub ..
/-- 8 host operations of @take_along_axis_0 (main_call2), in order. -/
abbrev hostOps0_2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16x512x1, .i32⟩) (broadcastInDim S16x512x1 ![] bcast_S_S16x512x1),
    StableHlo.TRef.binary (.of main_v6 : StableHlo.TRef sig ⟨S16x512x1, .i32⟩) (.of main_call2_v0 : StableHlo.TRef sig ⟨S16x512x1, .i32⟩) (.of main_call2_v1 : StableHlo.TRef sig ⟨S16x512x1, .i1⟩) (cmpi .slt),
    StableHlo.TRef.nullary (.of main_call2_c_0 : StableHlo.TRef sig ⟨S_, .i32⟩) (constantI S_ 32 2048#32),
    StableHlo.TRef.unary (.of main_call2_c_0 : StableHlo.TRef sig ⟨S_, .i32⟩) (.of main_call2_v2 : StableHlo.TRef sig ⟨S16x512x1, .i32⟩) (broadcastInDim S16x512x1 ![] bcast_S_S16x512x1),
    StableHlo.TRef.binary (.of main_v6 : StableHlo.TRef sig ⟨S16x512x1, .i32⟩) (.of main_call2_v2 : StableHlo.TRef sig ⟨S16x512x1, .i32⟩) (.of main_call2_v3 : StableHlo.TRef sig ⟨S16x512x1, .i32⟩) addi,
    StableHlo.TRef.ternary (.of main_call2_v1 : StableHlo.TRef sig ⟨S16x512x1, .i1⟩) (.of main_call2_v3 : StableHlo.TRef sig ⟨S16x512x1, .i32⟩) (.of main_v6 : StableHlo.TRef sig ⟨S16x512x1, .i32⟩) (.of main_call2_v4 : StableHlo.TRef sig ⟨S16x512x1, .i32⟩) select,
    StableHlo.TRef.binary (.of main_arg0 : StableHlo.TRef sig ⟨S16x2048x3, .f32⟩) (.of main_call2_v4 : StableHlo.TRef sig ⟨S16x512x1, .i32⟩) (.of main_v7 : StableHlo.TRef sig ⟨S16x512x3, .f32⟩) (fun x i => Host.gather gather_S16x2048x3_S16x512x1_S16x512x3_2_1_0_0_1_2_113 x i) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 17 host operations of @main, in order. -/
abbrev hostOps0_3 : List (HloOp τ sig (Elt F)) :=
  [ StableHlo.binary main_arg0 main_arg0 main_v8 (mulf : (⟨S16x2048x3, .f32⟩ : BufTy).Contents (Elt F) → (⟨S16x2048x3, .f32⟩ : BufTy).Contents (Elt F) → (⟨S16x2048x3, .f32⟩ : BufTy).Contents (Elt F)),
    StableHlo.nullary main_cst_4 (constant S_ .f32 0x00000000#32),
    StableHlo.binary main_v8 main_cst_4 main_v9 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F)),
    StableHlo.unary main_v9 main_v10 (broadcastInDim S16x2048x1 ![0, 1] bcast_S16x2048_S16x2048x1_0_1 : (⟨S16x2048, .f32⟩ : BufTy).Contents (Elt F) → (⟨S16x2048x1, .f32⟩ : BufTy).Contents (Elt F)),
    StableHlo.unary main_v9 main_v11 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v10 main_v12 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    StableHlo.unary main_v11 main_v13 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    StableHlo.binary main_v12 main_v13 main_v14 (addf : (⟨S16x2048x2048, .f32⟩ : BufTy).Contents (Elt F) → (⟨S16x2048x2048, .f32⟩ : BufTy).Contents (Elt F) → (⟨S16x2048x2048, .f32⟩ : BufTy).Contents (Elt F)),
    StableHlo.binary main_arg0 main_arg0 main_v15 ((fun l r => Host.dotGeneral dot_S16x2048x3_S16x2048x3_S16x2048x2048_2_2_1_1_0_0 none l r) : (⟨S16x2048x3, .f32⟩ : BufTy).Contents (Elt F) → (⟨S16x2048x3, .f32⟩ : BufTy).Contents (Elt F) → (⟨S16x2048x2048, .f32⟩ : BufTy).Contents (Elt F)),
    StableHlo.nullary main_cst_5 (constant S_ .f32 0x40000000#32),
    StableHlo.unary main_cst_5 main_v16 (broadcastInDim S16x2048x2048 ![] bcast_S_S16x2048x2048 : (⟨S_, .f32⟩ : BufTy).Contents (Elt F) → (⟨S16x2048x2048, .f32⟩ : BufTy).Contents (Elt F)),
    StableHlo.binary main_v16 main_v15 main_v17 (mulf : (⟨S16x2048x2048, .f32⟩ : BufTy).Contents (Elt F) → (⟨S16x2048x2048, .f32⟩ : BufTy).Contents (Elt F) → (⟨S16x2048x2048, .f32⟩ : BufTy).Contents (Elt F)),
    StableHlo.binary main_v14 main_v17 main_v18 (subf : (⟨S16x2048x2048, .f32⟩ : BufTy).Contents (Elt F) → (⟨S16x2048x2048, .f32⟩ : BufTy).Contents (Elt F) → (⟨S16x2048x2048, .f32⟩ : BufTy).Contents (Elt F)),
    StableHlo.unary main_v18 main_v19 (Host.negf : (⟨S16x2048x2048, .f32⟩ : BufTy).Contents (Elt F) → (⟨S16x2048x2048, .f32⟩ : BufTy).Contents (Elt F)),
    StableHlo.unary main_v19 main_values ((fun x => (Host.topK S16x2048x32 2 (FloatOps.cmpfTotal .gt) x sliceFits_S16x2048x2048_S16x2048x32).1) : (⟨S16x2048x2048, .f32⟩ : BufTy).Contents (Elt F) → (⟨S16x2048x32, .f32⟩ : BufTy).Contents (Elt F)),
    StableHlo.unary main_v19 main_indices ((fun x => (Host.topK S16x2048x32 2 (FloatOps.cmpfTotal .gt) x sliceFits_S16x2048x2048_S16x2048x32).2) : (⟨S16x2048x2048, .f32⟩ : BufTy).Contents (Elt F) → (⟨S16x2048x32, .i32⟩ : BufTy).Contents (Elt F)),
    StableHlo.reshape main_indices main_v20 (rfl : (.i32 : EltTy) = .i32) shapeCasts_S16x2048x32_S16x65536x1 ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.reshape_bufs_sub ..⟩
/-- 8 host operations of @take_along_axis_1 (main_call3), in order. -/
abbrev hostOps0_4 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S16x65536x1, .i32⟩) (broadcastInDim S16x65536x1 ![] bcast_S_S16x65536x1),
    StableHlo.TRef.binary (.of main_v20 : StableHlo.TRef sig ⟨S16x65536x1, .i32⟩) (.of main_call3_v0 : StableHlo.TRef sig ⟨S16x65536x1, .i32⟩) (.of main_call3_v1 : StableHlo.TRef sig ⟨S16x65536x1, .i1⟩) (cmpi .slt),
    StableHlo.TRef.nullary (.of main_call3_c_0 : StableHlo.TRef sig ⟨S_, .i32⟩) (constantI S_ 32 2048#32),
    StableHlo.TRef.unary (.of main_call3_c_0 : StableHlo.TRef sig ⟨S_, .i32⟩) (.of main_call3_v2 : StableHlo.TRef sig ⟨S16x65536x1, .i32⟩) (broadcastInDim S16x65536x1 ![] bcast_S_S16x65536x1),
    StableHlo.TRef.binary (.of main_v20 : StableHlo.TRef sig ⟨S16x65536x1, .i32⟩) (.of main_call3_v2 : StableHlo.TRef sig ⟨S16x65536x1, .i32⟩) (.of main_call3_v3 : StableHlo.TRef sig ⟨S16x65536x1, .i32⟩) addi,
    StableHlo.TRef.ternary (.of main_call3_v1 : StableHlo.TRef sig ⟨S16x65536x1, .i1⟩) (.of main_call3_v3 : StableHlo.TRef sig ⟨S16x65536x1, .i32⟩) (.of main_v20 : StableHlo.TRef sig ⟨S16x65536x1, .i32⟩) (.of main_call3_v4 : StableHlo.TRef sig ⟨S16x65536x1, .i32⟩) select,
    StableHlo.TRef.binary (.of main_arg0 : StableHlo.TRef sig ⟨S16x2048x3, .f32⟩) (.of main_call3_v4 : StableHlo.TRef sig ⟨S16x65536x1, .i32⟩) (.of main_v21 : StableHlo.TRef sig ⟨S16x65536x3, .f32⟩) (fun x i => Host.gather gather_S16x2048x3_S16x65536x1_S16x65536x3_2_1_0_0_1_2_113 x i) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 8 host operations of @take_along_axis_2 (main_call4), in order. -/
abbrev hostOps0_5 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S16x65536x1, .i32⟩) (broadcastInDim S16x65536x1 ![] bcast_S_S16x65536x1),
    StableHlo.TRef.binary (.of main_v20 : StableHlo.TRef sig ⟨S16x65536x1, .i32⟩) (.of main_call4_v0 : StableHlo.TRef sig ⟨S16x65536x1, .i32⟩) (.of main_call4_v1 : StableHlo.TRef sig ⟨S16x65536x1, .i1⟩) (cmpi .slt),
    StableHlo.TRef.nullary (.of main_call4_c_0 : StableHlo.TRef sig ⟨S_, .i32⟩) (constantI S_ 32 2048#32),
    StableHlo.TRef.unary (.of main_call4_c_0 : StableHlo.TRef sig ⟨S_, .i32⟩) (.of main_call4_v2 : StableHlo.TRef sig ⟨S16x65536x1, .i32⟩) (broadcastInDim S16x65536x1 ![] bcast_S_S16x65536x1),
    StableHlo.TRef.binary (.of main_v20 : StableHlo.TRef sig ⟨S16x65536x1, .i32⟩) (.of main_call4_v2 : StableHlo.TRef sig ⟨S16x65536x1, .i32⟩) (.of main_call4_v3 : StableHlo.TRef sig ⟨S16x65536x1, .i32⟩) addi,
    StableHlo.TRef.ternary (.of main_call4_v1 : StableHlo.TRef sig ⟨S16x65536x1, .i1⟩) (.of main_call4_v3 : StableHlo.TRef sig ⟨S16x65536x1, .i32⟩) (.of main_v20 : StableHlo.TRef sig ⟨S16x65536x1, .i32⟩) (.of main_call4_v4 : StableHlo.TRef sig ⟨S16x65536x1, .i32⟩) select,
    StableHlo.TRef.binary (.of main_arg1 : StableHlo.TRef sig ⟨S16x2048x16, .f32⟩) (.of main_call4_v4 : StableHlo.TRef sig ⟨S16x65536x1, .i32⟩) (.of main_v22 : StableHlo.TRef sig ⟨S16x65536x16, .f32⟩) (fun x i => Host.gather gather_S16x2048x16_S16x65536x1_S16x65536x16_2_1_0_0_1_2_1116 x i) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 5 host operations of @main, in order. -/
abbrev hostOps0_6 : List (HloOp τ sig (Elt F)) :=
  [ StableHlo.binary main_v21 main_v22 main_v23 ((fun a b => concatenate S16x65536x19 2 [⟨S16x65536x3, a⟩, ⟨S16x65536x16, b⟩] concatenates_S16x65536x3_S16x65536x16_S16x65536x19_d2) : (⟨S16x65536x3, .f32⟩ : BufTy).Contents (Elt F) → (⟨S16x65536x16, .f32⟩ : BufTy).Contents (Elt F) → (⟨S16x65536x19, .f32⟩ : BufTy).Contents (Elt F)),
    StableHlo.binary main_v23 main_arg2 main_v24 ((fun l r => Host.dotGeneral dot_S16x65536x19_S19x64_S16x65536x64_2_0_01_1_n_n none l r) : (⟨S16x65536x19, .f32⟩ : BufTy).Contents (Elt F) → (⟨S19x64, .f32⟩ : BufTy).Contents (Elt F) → (⟨S16x65536x64, .f32⟩ : BufTy).Contents (Elt F)),
    StableHlo.unary main_arg3 main_v25 (broadcastInDim S1x1x64 ![2] bcast_S64_S1x1x64_2 : (⟨S64, .f32⟩ : BufTy).Contents (Elt F) → (⟨S1x1x64, .f32⟩ : BufTy).Contents (Elt F)),
    StableHlo.unary main_v25 main_v26 (broadcastInDim S16x65536x64 ![0, 1, 2] bcast_S1x1x64_S16x65536x64_0_1_2 : (⟨S1x1x64, .f32⟩ : BufTy).Contents (Elt F) → (⟨S16x65536x64, .f32⟩ : BufTy).Contents (Elt F)),
    StableHlo.binary main_v24 main_v26 main_v27 (addf : (⟨S16x65536x64, .f32⟩ : BufTy).Contents (Elt F) → (⟨S16x65536x64, .f32⟩ : BufTy).Contents (Elt F) → (⟨S16x65536x64, .f32⟩ : BufTy).Contents (Elt F)) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub ..⟩
/-- 3 host operations of @relu (main_call5), in order. -/
abbrev hostOps0_7 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S16x65536x64, .f32⟩) (broadcastInDim S16x65536x64 ![] bcast_S_S16x65536x64),
    StableHlo.TRef.binary (.of main_v27 : StableHlo.TRef sig ⟨S16x65536x64, .f32⟩) (.of main_call5_v0 : StableHlo.TRef sig ⟨S16x65536x64, .f32⟩) (.of main_v28 : StableHlo.TRef sig ⟨S16x65536x64, .f32⟩) maximumf ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.nullary_bufs_sub .., StableHlo.unary_bufs_sub .., StableHlo.binary_bufs_sub ..⟩
/-- 4 host operations of @main, in order. -/
abbrev hostOps0_8 : List (HloOp τ sig (Elt F)) :=
  [ StableHlo.binary main_v28 main_arg4 main_v29 ((fun l r => Host.dotGeneral dot_S16x65536x64_S64x128_S16x65536x128_2_0_01_1_n_n none l r) : (⟨S16x65536x64, .f32⟩ : BufTy).Contents (Elt F) → (⟨S64x128, .f32⟩ : BufTy).Contents (Elt F) → (⟨S16x65536x128, .f32⟩ : BufTy).Contents (Elt F)),
    StableHlo.unary main_arg5 main_v30 (broadcastInDim S1x1x128 ![2] bcast_S128_S1x1x128_2 : (⟨S128, .f32⟩ : BufTy).Contents (Elt F) → (⟨S1x1x128, .f32⟩ : BufTy).Contents (Elt F)),
    StableHlo.unary main_v30 main_v31 (broadcastInDim S16x65536x128 ![0, 1, 2] bcast_S1x1x128_S16x65536x128_0_1_2 : (⟨S1x1x128, .f32⟩ : BufTy).Contents (Elt F) → (⟨S16x65536x128, .f32⟩ : BufTy).Contents (Elt F)),
    StableHlo.binary main_v29 main_v31 main_v32 (addf : (⟨S16x65536x128, .f32⟩ : BufTy).Contents (Elt F) → (⟨S16x65536x128, .f32⟩ : BufTy).Contents (Elt F) → (⟨S16x65536x128, .f32⟩ : BufTy).Contents (Elt F)) ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- 3 host operations of @relu_3 (main_call6), in order. -/
abbrev hostOps0_9 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S16x65536x128, .f32⟩) (broadcastInDim S16x65536x128 ![] bcast_S_S16x65536x128),
    StableHlo.TRef.binary (.of main_v32 : StableHlo.TRef sig ⟨S16x65536x128, .f32⟩) (.of main_call6_v0 : StableHlo.TRef sig ⟨S16x65536x128, .f32⟩) (.of main_v33 : StableHlo.TRef sig ⟨S16x65536x128, .f32⟩) maximumf ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  ⟨StableHlo.nullary_bufs_sub .., StableHlo.unary_bufs_sub .., StableHlo.binary_bufs_sub ..⟩
/-- 7 host operations of @main, in order. -/
abbrev hostOps0_10 : List (HloOp τ sig (Elt F)) :=
  [ StableHlo.binary main_v33 main_arg6 main_v34 ((fun l r => Host.dotGeneral dot_S16x65536x128_S128x128_S16x65536x128_2_0_01_1_n_n none l r) : (⟨S16x65536x128, .f32⟩ : BufTy).Contents (Elt F) → (⟨S128x128, .f32⟩ : BufTy).Contents (Elt F) → (⟨S16x65536x128, .f32⟩ : BufTy).Contents (Elt F)),
    StableHlo.unary main_arg7 main_v35 (broadcastInDim S1x1x128 ![2] bcast_S128_S1x1x128_2 : (⟨S128, .f32⟩ : BufTy).Contents (Elt F) → (⟨S1x1x128, .f32⟩ : BufTy).Contents (Elt F)),
    StableHlo.unary main_v35 main_v36 (broadcastInDim S16x65536x128 ![0, 1, 2] bcast_S1x1x128_S16x65536x128_0_1_2 : (⟨S1x1x128, .f32⟩ : BufTy).Contents (Elt F) → (⟨S16x65536x128, .f32⟩ : BufTy).Contents (Elt F)),
    StableHlo.binary main_v34 main_v36 main_v37 (addf : (⟨S16x65536x128, .f32⟩ : BufTy).Contents (Elt F) → (⟨S16x65536x128, .f32⟩ : BufTy).Contents (Elt F) → (⟨S16x65536x128, .f32⟩ : BufTy).Contents (Elt F)),
    StableHlo.nullary main_cst_6 (constant S_ .f32 0xFF800000#32),
    StableHlo.binary main_v37 main_cst_6 main_v38 ((fun x v => Host.reduce FloatOps.maximumf x v reducesTo_S16x65536x128_S16x65536_d2 h_S_) : (⟨S16x65536x128, .f32⟩ : BufTy).Contents (Elt F) → (⟨S_, .f32⟩ : BufTy).Contents (Elt F) → (⟨S16x65536, .f32⟩ : BufTy).Contents (Elt F)),
    StableHlo.reshape main_v38 main_v39 (rfl : (.f32 : EltTy) = .f32) shapeCasts_S16x65536_S16x2048x32 ]
/-- Each touches TensorCore references only (`HostSeg.ofOps` over `StableHlo.tcRefs`, or a subset by `sub_ucRefs`). -/
theorem hostOps0_10_sub : (hostOps0_10 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.binary_bufs_sub .., StableHlo.reshape_bufs_sub ..⟩
/-- `main` is the chain of its items: stretches of host operations and, in `main`, the loop, in order. -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, Pipeline.chain_cons, StableHlo.chain_seq_cons, Pipeline.chain_cons, StableHlo.chain_seq_cons, Pipeline.chain_cons, StableHlo.chain_seq_cons]
  chain_rfl

-- no `main_segs` (the loop-free kit's `Seg.run` equation) for this @main: it has a host loop; a certificate takes `main_chain` (Lib/Pipeline/RegionsLoop.lean)

/-- 11 host operations of host loop 0's body region, in order. -/
abbrev while0Ops0 : List (HloOp τ sig (Elt F)) :=
  [ StableHlo.nullary main_while0b_c_12 (constantI S_ 32 1#32),
    StableHlo.binary main_v5_2 main_while0b_c_12 main_while0b_v40 (addi : (⟨S_, .i32⟩ : BufTy).Contents (Elt F) → (⟨S_, .i32⟩ : BufTy).Contents (Elt F) → (⟨S_, .i32⟩ : BufTy).Contents (Elt F)),
    StableHlo.nullary main_while0b_c_13 (constantI S_ 32 0#32),
    StableHlo.binary main_v5_2 main_while0b_c_13 main_while0b_v41 (cmpi .slt : (⟨S_, .i32⟩ : BufTy).Contents (Elt F) → (⟨S_, .i32⟩ : BufTy).Contents (Elt F) → (⟨S_, .i1⟩ : BufTy).Contents (Elt F)),
    StableHlo.nullary main_while0b_c_14 (constantI S_ 32 512#32),
    StableHlo.binary main_v5_2 main_while0b_c_14 main_while0b_v42 (addi : (⟨S_, .i32⟩ : BufTy).Contents (Elt F) → (⟨S_, .i32⟩ : BufTy).Contents (Elt F) → (⟨S_, .i32⟩ : BufTy).Contents (Elt F)),
    StableHlo.ternary main_while0b_v41 main_while0b_v42 main_v5_2 main_while0b_v43 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v43 main_while0b_v44 (id : (⟨S_, .i32⟩ : BufTy).Contents (Elt F) → (⟨S_, .i32⟩ : BufTy).Contents (Elt F)),
    StableHlo.unary main_while0b_v44 main_while0b_v45 (broadcastInDim S1 ![] bcast_S_S1 : (⟨S_, .i32⟩ : BufTy).Contents (Elt F) → (⟨S1, .i32⟩ : BufTy).Contents (Elt F)),
    StableHlo.ternary main_v5_3 main_while0b_v45 main_v5_5 main_while0b_v46 ((fun x i u => Host.scatter scatter_S16x512_S1_S16_0_1_1_0 (fun _ b => b) x i u) : (⟨S16x512, .i32⟩ : BufTy).Contents (Elt F) → (⟨S1, .i32⟩ : BufTy).Contents (Elt F) → (⟨S16, .i32⟩ : BufTy).Contents (Elt F) → (⟨S16x512, .i32⟩ : BufTy).Contents (Elt F)),
    StableHlo.unary main_v5_5 main_while0b_v47 (broadcastInDim S16x1x1 ![0] bcast_S16_S16x1x1_0 : (⟨S16, .i32⟩ : BufTy).Contents (Elt F) → (⟨S16x1x1, .i32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub ..⟩
/-- 8 host operations of @take_along_axis (main_while0b_call0), in order. -/
abbrev while0Ops0_1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S16x1x1, .i32⟩) (broadcastInDim S16x1x1 ![] bcast_S_S16x1x1),
    StableHlo.TRef.binary (.of main_while0b_v47 : StableHlo.TRef sig ⟨S16x1x1, .i32⟩) (.of main_while0b_call0_v0 : StableHlo.TRef sig ⟨S16x1x1, .i32⟩) (.of main_while0b_call0_v1 : StableHlo.TRef sig ⟨S16x1x1, .i1⟩) (cmpi .slt),
    StableHlo.TRef.nullary (.of main_while0b_call0_c_0 : StableHlo.TRef sig ⟨S_, .i32⟩) (constantI S_ 32 2048#32),
    StableHlo.TRef.unary (.of main_while0b_call0_c_0 : StableHlo.TRef sig ⟨S_, .i32⟩) (.of main_while0b_call0_v2 : StableHlo.TRef sig ⟨S16x1x1, .i32⟩) (broadcastInDim S16x1x1 ![] bcast_S_S16x1x1),
    StableHlo.TRef.binary (.of main_while0b_v47 : StableHlo.TRef sig ⟨S16x1x1, .i32⟩) (.of main_while0b_call0_v2 : StableHlo.TRef sig ⟨S16x1x1, .i32⟩) (.of main_while0b_call0_v3 : StableHlo.TRef sig ⟨S16x1x1, .i32⟩) addi,
    StableHlo.TRef.ternary (.of main_while0b_call0_v1 : StableHlo.TRef sig ⟨S16x1x1, .i1⟩) (.of main_while0b_call0_v3 : StableHlo.TRef sig ⟨S16x1x1, .i32⟩) (.of main_while0b_v47 : StableHlo.TRef sig ⟨S16x1x1, .i32⟩) (.of main_while0b_call0_v4 : StableHlo.TRef sig ⟨S16x1x1, .i32⟩) select,
    StableHlo.TRef.binary (.of main_v5_0 : StableHlo.TRef sig ⟨S16x2048x3, .f32⟩) (.of main_while0b_call0_v4 : StableHlo.TRef sig ⟨S16x1x1, .i32⟩) (.of main_while0b_v48 : StableHlo.TRef sig ⟨S16x1x3, .f32⟩) (fun x i => Host.gather gather_S16x2048x3_S16x1x1_S16x1x3_2_1_0_0_1_2_113 x i) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 6 host operations of host loop 0's body region, in order. -/
abbrev while0Ops0_2 : List (HloOp τ sig (Elt F)) :=
  [ StableHlo.unary main_while0b_v48 main_while0b_v49 (broadcastInDim S16x2048x3 ![0, 1, 2] bcast_S16x1x3_S16x2048x3_0_1_2 : (⟨S16x1x3, .f32⟩ : BufTy).Contents (Elt F) → (⟨S16x2048x3, .f32⟩ : BufTy).Contents (Elt F)),
    StableHlo.binary main_v5_0 main_while0b_v49 main_while0b_v50 (subf : (⟨S16x2048x3, .f32⟩ : BufTy).Contents (Elt F) → (⟨S16x2048x3, .f32⟩ : BufTy).Contents (Elt F) → (⟨S16x2048x3, .f32⟩ : BufTy).Contents (Elt F)),
    StableHlo.binary main_while0b_v50 main_while0b_v50 main_while0b_v51 (mulf : (⟨S16x2048x3, .f32⟩ : BufTy).Contents (Elt F) → (⟨S16x2048x3, .f32⟩ : BufTy).Contents (Elt F) → (⟨S16x2048x3, .f32⟩ : BufTy).Contents (Elt F)),
    StableHlo.nullary main_while0b_cst_15 (constant S_ .f32 0x00000000#32),
    StableHlo.binary main_while0b_v51 main_while0b_cst_15 main_while0b_v52 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F)),
    StableHlo.binary main_v5_4 main_while0b_v52 main_while0b_v53 (minimumf : (⟨S16x2048, .f32⟩ : BufTy).Contents (Elt F) → (⟨S16x2048, .f32⟩ : BufTy).Contents (Elt F) → (⟨S16x2048, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩
/-- 5 host operations of @argmax (main_while0b_call1), in order. -/
abbrev while0Ops0_3 : List (HloOp τ sig (Elt F)) :=
  [ StableHlo.TRef.nullary (.of main_while0b_call1_v0 : StableHlo.TRef sig ⟨S16x2048, .i32⟩) (iotaInDim S16x2048 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v53 : StableHlo.TRef sig ⟨S16x2048, .f32⟩) (.of main_while0b_call1_v0 : StableHlo.TRef sig ⟨S16x2048, .i32⟩) (.of main_while0b_call1_cst : StableHlo.TRef sig ⟨S_, .f32⟩) (.of main_while0b_call1_c : StableHlo.TRef sig ⟨S_, .i32⟩) (.of main_while0b_call1_v1_0 : StableHlo.TRef sig ⟨S16, .f32⟩) (fun x y u v j => (Host.argReduce reducer_argmax_f32_i32 x y u v reducesTo_S16x2048_S16_d1 h_S_ j).1),
    StableHlo.TRef.quaternary (.of main_while0b_v53 : StableHlo.TRef sig ⟨S16x2048, .f32⟩) (.of main_while0b_call1_v0 : StableHlo.TRef sig ⟨S16x2048, .i32⟩) (.of main_while0b_call1_cst : StableHlo.TRef sig ⟨S_, .f32⟩) (.of main_while0b_call1_c : StableHlo.TRef sig ⟨S_, .i32⟩) (.of main_while0b_v54 : StableHlo.TRef sig ⟨S16, .i32⟩) (fun x y u v j => (Host.argReduce reducer_argmax_f32_i32 x y u v reducesTo_S16x2048_S16_d1 h_S_ j).2) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 7 host operations of host loop 0's body region, in order. -/
abbrev while0Ops0_4 : List (HloOp τ sig (Elt F)) :=
  [ StableHlo.nullary main_while0b_c_16 (constantI S_ 32 1#32),
    StableHlo.binary main_v5_1 main_while0b_c_16 main_while0b_v55 (addi : (⟨S_, .i32⟩ : BufTy).Contents (Elt F) → (⟨S_, .i32⟩ : BufTy).Contents (Elt F) → (⟨S_, .i32⟩ : BufTy).Contents (Elt F)),
    StableHlo.unary main_while0b_v55 main_v5_1 id,
    StableHlo.unary main_while0b_v40 main_v5_2 id,
    StableHlo.unary main_while0b_v46 main_v5_3 id,
    StableHlo.unary main_while0b_v53 main_v5_4 id,
    StableHlo.unary main_while0b_v54 main_v5_5 id ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- `main_while0_body` is the chain of its items: stretches of host operations and, in `main`, the loop, in order. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_c, main_v0, main_cst, main_v1, main_cst_0, main_v2, main_v3, main_c_1, main_v4, main_c_2, main_c_3, main_v5_0, main_v5_1, main_v5_2, main_v5_3, main_v5_4, main_v5_5]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_12, main_while0b_v40, main_while0b_c_13, main_while0b_v41, main_while0b_c_14, main_while0b_v42, main_while0b_v43, main_while0b_v44, main_while0b_v45, main_while0b_v46, main_while0b_v47]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_c, main_while0b_call0_v0, main_while0b_call0_v1, main_while0b_call0_c_0, main_while0b_call0_v2, main_while0b_call0_v3, main_while0b_call0_v4, main_while0b_v48]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v49, main_while0b_v50, main_while0b_v51, main_while0b_cst_15, main_while0b_v52, main_while0b_v53]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call1_v0, main_while0b_call1_cst, main_while0b_call1_c, main_while0b_call1_v1_0, main_while0b_v54]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_c_16, main_while0b_v55, main_v5_1, main_v5_2, main_v5_3, main_v5_4, main_v5_5]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl
/-- No operation of `hostOps0_8` allocates a buffer. -/
theorem hostOps0_8_fresh : (hostOps0_8 : List (HloOp τ sig (Elt F))).Forall fun op => op.fresh = ∅ :=
  StableHlo.forall_fresh_of_map rfl
/-- No operation of `hostOps0_9` allocates a buffer. -/
theorem hostOps0_9_fresh : (hostOps0_9 : List (HloOp τ sig (Elt F))).Forall fun op => op.fresh = ∅ :=
  StableHlo.forall_fresh_of_map rfl
/-- No operation of `hostOps0_10` allocates a buffer. -/
theorem hostOps0_10_fresh : (hostOps0_10 : List (HloOp τ sig (Elt F))).Forall fun op => op.fresh = ∅ :=
  StableHlo.forall_fresh_of_map rfl
/-- The reference each operation of `hostOps0_1` writes, in order. -/
abbrev hostOps0_1_W : List (Ref sig .tc) := [main_v6]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call2_c, main_call2_v0, main_call2_v1, main_call2_c_0, main_call2_v2, main_call2_v3, main_call2_v4, main_v7]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v8, main_cst_4, main_v9, main_v10, main_v11, main_v12, main_v13, main_v14, main_v15, main_cst_5, main_v16, main_v17, main_v18, main_v19, main_values, main_indices, main_v20]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call3_c, main_call3_v0, main_call3_v1, main_call3_c_0, main_call3_v2, main_call3_v3, main_call3_v4, main_v21]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_call4_c, main_call4_v0, main_call4_v1, main_call4_c_0, main_call4_v2, main_call4_v3, main_call4_v4, main_v22]
theorem hostOps0_5_writes : (hostOps0_5 : List (HloOp τ sig (Elt F))).Forall fun op => op.writes ⊆ (hostOps0_5_W.map (Proc.devRef (τ := τ) .tc)).toFinset :=
  StableHlo.forall_writes_sub_of_map rfl
/-- The reference each operation of `hostOps0_6` writes, in order. -/
abbrev hostOps0_6_W : List (Ref sig .tc) := [main_v23, main_v24, main_v25, main_v26, main_v27]
theorem hostOps0_6_writes : (hostOps0_6 : List (HloOp τ sig (Elt F))).Forall fun op => op.writes ⊆ (hostOps0_6_W.map (Proc.devRef (τ := τ) .tc)).toFinset :=
  StableHlo.forall_writes_sub_of_map rfl
/-- The reference each operation of `hostOps0_7` writes, in order. -/
abbrev hostOps0_7_W : List (Ref sig .tc) := [main_call5_cst, main_call5_v0, main_v28]
theorem hostOps0_7_writes : (hostOps0_7 : List (HloOp τ sig (Elt F))).Forall fun op => op.writes ⊆ (hostOps0_7_W.map (Proc.devRef (τ := τ) .tc)).toFinset :=
  StableHlo.forall_writes_sub_of_map rfl
/-- The reference each operation of `hostOps0_8` writes, in order. -/
abbrev hostOps0_8_W : List (Ref sig .tc) := [main_v29, main_v30, main_v31, main_v32]
theorem hostOps0_8_writes : (hostOps0_8 : List (HloOp τ sig (Elt F))).Forall fun op => op.writes ⊆ (hostOps0_8_W.map (Proc.devRef (τ := τ) .tc)).toFinset :=
  StableHlo.forall_writes_sub_of_map rfl
/-- The reference each operation of `hostOps0_9` writes, in order. -/
abbrev hostOps0_9_W : List (Ref sig .tc) := [main_call6_cst, main_call6_v0, main_v33]
theorem hostOps0_9_writes : (hostOps0_9 : List (HloOp τ sig (Elt F))).Forall fun op => op.writes ⊆ (hostOps0_9_W.map (Proc.devRef (τ := τ) .tc)).toFinset :=
  StableHlo.forall_writes_sub_of_map rfl
/-- The reference each operation of `hostOps0_10` writes, in order. -/
abbrev hostOps0_10_W : List (Ref sig .tc) := [main_v34, main_v35, main_v36, main_v37, main_cst_6, main_v38, main_v39]
theorem hostOps0_10_writes : (hostOps0_10 : List (HloOp τ sig (Elt F))).Forall fun op => op.writes ⊆ (hostOps0_10_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_12 (constantI S_ 32 512#32),
    StableHlo.binary main_v5_1 main_while0c_c_12 main_while0c_v40 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4]
abbrev postI : List (List (HloOp τ sig (Elt F))) := [hostOps0_1, hostOps0_2, hostOps0_3, hostOps0_4, hostOps0_5, hostOps0_6, hostOps0_7, hostOps0_8, hostOps0_9, hostOps0_10]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.nil))))))))))

/-- The reference each operation of `condOps` writes, in order. -/
abbrev condOps_W : List (Ref sig .tc) := [main_while0c_c_12, main_while0c_v40]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v5_1`) is written by one stretch of the body, `while0Ops0_4`: not by the condition, nor by the
    body's other stretches. -/
theorem ctr_cond (V : Valuation τ sig (Elt F)) : after condOps V (Proc.devRef .tc main_v5_1) = V (Proc.devRef .tc main_v5_1) :=
  after_of_writes_sub condOps V condOps_writes (by decide +kernel)
theorem ctr_while0Ops0 (V : Valuation τ sig (Elt F)) : after while0Ops0 V (Proc.devRef .tc main_v5_1) = V (Proc.devRef .tc main_v5_1) :=
  after_of_writes_sub while0Ops0 V while0Ops0_writes (by decide +kernel)
theorem ctr_while0Ops0_1 (V : Valuation τ sig (Elt F)) : after while0Ops0_1 V (Proc.devRef .tc main_v5_1) = V (Proc.devRef .tc main_v5_1) :=
  after_of_writes_sub while0Ops0_1 V while0Ops0_1_writes (by decide +kernel)
theorem ctr_while0Ops0_2 (V : Valuation τ sig (Elt F)) : after while0Ops0_2 V (Proc.devRef .tc main_v5_1) = V (Proc.devRef .tc main_v5_1) :=
  after_of_writes_sub while0Ops0_2 V while0Ops0_2_writes (by decide +kernel)
theorem ctr_while0Ops0_3 (V : Valuation τ sig (Elt F)) : after while0Ops0_3 V (Proc.devRef .tc main_v5_1) = V (Proc.devRef .tc main_v5_1) :=
  after_of_writes_sub while0Ops0_3 V while0Ops0_3_writes (by decide +kernel)

set_option maxRecDepth 100000 in
/-- `while0Ops0_4` leaves the counter one step on. -/
theorem ctr_step (X : Valuation τ sig (Elt F)) :
    after while0Ops0_4 X (Proc.devRef .tc main_v5_1) = addi (X (Proc.devRef .tc main_v5_1)) (constantI S_ 32 1#32) := by
  after_results
  rfl

/-- The counter is the loop's lower bound at the loop's entry: its last writer before the loop read back. -/
theorem ctr_entry (c : Dev nD) : entryContents preI m c (Proc.devRef .tc main_v5_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v5_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_3, ctr_while0Ops0_2, ctr_while0Ops0_1, ctr_while0Ops0, ctr_cond, atK_ctr c k, Scf.iv_succ]
    rfl

set_option backward.isDefEq.respectTransparency.types false in
/-- The condition's specification at the fold. -/
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v5_1 HostLoop.idx0)
        (HloOp.result _ (atK m k c) main_while0c_c_12 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 512 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 512 m ρ (cond_spec m)

end Cert.ReferenceIdeal.Value

end
-- ==== Proof.Ref.Read.lean ====
/- The reference's run, second half: what one trip of its loop makes of the carried buffers (`STEP`), what the operations
   after the loop make of them, and `run`: each result is read off `STEP` iterated on what stands at the loop's entry. -/
module

public import proofs.«01_k».proof.Proof.Ref.Loop

@[expose] public section

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/
variable (m : (ℓ : Loc nD τ sig) → Buf (Elt F) ℓ) (ρ : Dev nD → PrngReg)

/-! ## One trip's values -/

/-- The body's operations 1 … 11 of 37. -/
abbrev trip_w0 : List (HloOp τ sig (Elt F)) :=
  [ StableHlo.nullary main_while0b_c_12 (constantI S_ 32 1#32),
    StableHlo.binary main_v5_2 main_while0b_c_12 main_while0b_v40 (addi : (⟨S_, .i32⟩ : BufTy).Contents (Elt F) → (⟨S_, .i32⟩ : BufTy).Contents (Elt F) → (⟨S_, .i32⟩ : BufTy).Contents (Elt F)),
    StableHlo.nullary main_while0b_c_13 (constantI S_ 32 0#32),
    StableHlo.binary main_v5_2 main_while0b_c_13 main_while0b_v41 (cmpi .slt : (⟨S_, .i32⟩ : BufTy).Contents (Elt F) → (⟨S_, .i32⟩ : BufTy).Contents (Elt F) → (⟨S_, .i1⟩ : BufTy).Contents (Elt F)),
    StableHlo.nullary main_while0b_c_14 (constantI S_ 32 512#32),
    StableHlo.binary main_v5_2 main_while0b_c_14 main_while0b_v42 (addi : (⟨S_, .i32⟩ : BufTy).Contents (Elt F) → (⟨S_, .i32⟩ : BufTy).Contents (Elt F) → (⟨S_, .i32⟩ : BufTy).Contents (Elt F)),
    StableHlo.ternary main_while0b_v41 main_while0b_v42 main_v5_2 main_while0b_v43 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v43 main_while0b_v44 (id : (⟨S_, .i32⟩ : BufTy).Contents (Elt F) → (⟨S_, .i32⟩ : BufTy).Contents (Elt F)),
    StableHlo.unary main_while0b_v44 main_while0b_v45 (broadcastInDim S1 ![] bcast_S_S1 : (⟨S_, .i32⟩ : BufTy).Contents (Elt F) → (⟨S1, .i32⟩ : BufTy).Contents (Elt F)),
    StableHlo.ternary main_v5_3 main_while0b_v45 main_v5_5 main_while0b_v46 ((fun x i u => Host.scatter scatter_S16x512_S1_S16_0_1_1_0 (fun _ b => b) x i u) : (⟨S16x512, .i32⟩ : BufTy).Contents (Elt F) → (⟨S1, .i32⟩ : BufTy).Contents (Elt F) → (⟨S16, .i32⟩ : BufTy).Contents (Elt F) → (⟨S16x512, .i32⟩ : BufTy).Contents (Elt F)),
    StableHlo.unary main_v5_5 main_while0b_v47 (broadcastInDim S16x1x1 ![0] bcast_S16_S16x1x1_0 : (⟨S16, .i32⟩ : BufTy).Contents (Elt F) → (⟨S16x1x1, .i32⟩ : BufTy).Contents (Elt F)) ]

/-- The body's operations 12 … 19 of 37. -/
abbrev trip_w1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S16x1x1, .i32⟩) (broadcastInDim S16x1x1 ![] bcast_S_S16x1x1),
    StableHlo.TRef.binary (.of main_while0b_v47 : StableHlo.TRef sig ⟨S16x1x1, .i32⟩) (.of main_while0b_call0_v0 : StableHlo.TRef sig ⟨S16x1x1, .i32⟩) (.of main_while0b_call0_v1 : StableHlo.TRef sig ⟨S16x1x1, .i1⟩) (cmpi .slt),
    StableHlo.TRef.nullary (.of main_while0b_call0_c_0 : StableHlo.TRef sig ⟨S_, .i32⟩) (constantI S_ 32 2048#32),
    StableHlo.TRef.unary (.of main_while0b_call0_c_0 : StableHlo.TRef sig ⟨S_, .i32⟩) (.of main_while0b_call0_v2 : StableHlo.TRef sig ⟨S16x1x1, .i32⟩) (broadcastInDim S16x1x1 ![] bcast_S_S16x1x1),
    StableHlo.TRef.binary (.of main_while0b_v47 : StableHlo.TRef sig ⟨S16x1x1, .i32⟩) (.of main_while0b_call0_v2 : StableHlo.TRef sig ⟨S16x1x1, .i32⟩) (.of main_while0b_call0_v3 : StableHlo.TRef sig ⟨S16x1x1, .i32⟩) addi,
    StableHlo.TRef.ternary (.of main_while0b_call0_v1 : StableHlo.TRef sig ⟨S16x1x1, .i1⟩) (.of main_while0b_call0_v3 : StableHlo.TRef sig ⟨S16x1x1, .i32⟩) (.of main_while0b_v47 : StableHlo.TRef sig ⟨S16x1x1, .i32⟩) (.of main_while0b_call0_v4 : StableHlo.TRef sig ⟨S16x1x1, .i32⟩) select,
    StableHlo.TRef.binary (.of main_v5_0 : StableHlo.TRef sig ⟨S16x2048x3, .f32⟩) (.of main_while0b_call0_v4 : StableHlo.TRef sig ⟨S16x1x1, .i32⟩) (.of main_while0b_v48 : StableHlo.TRef sig ⟨S16x1x3, .f32⟩) (fun x i => Host.gather gather_S16x2048x3_S16x1x1_S16x1x3_2_1_0_0_1_2_113 x i) ]

/-- The body's operations 20 … 25 of 37. -/
abbrev trip_w2 : List (HloOp τ sig (Elt F)) :=
  [ StableHlo.unary main_while0b_v48 main_while0b_v49 (broadcastInDim S16x2048x3 ![0, 1, 2] bcast_S16x1x3_S16x2048x3_0_1_2 : (⟨S16x1x3, .f32⟩ : BufTy).Contents (Elt F) → (⟨S16x2048x3, .f32⟩ : BufTy).Contents (Elt F)),
    StableHlo.binary main_v5_0 main_while0b_v49 main_while0b_v50 (subf : (⟨S16x2048x3, .f32⟩ : BufTy).Contents (Elt F) → (⟨S16x2048x3, .f32⟩ : BufTy).Contents (Elt F) → (⟨S16x2048x3, .f32⟩ : BufTy).Contents (Elt F)),
    StableHlo.binary main_while0b_v50 main_while0b_v50 main_while0b_v51 (mulf : (⟨S16x2048x3, .f32⟩ : BufTy).Contents (Elt F) → (⟨S16x2048x3, .f32⟩ : BufTy).Contents (Elt F) → (⟨S16x2048x3, .f32⟩ : BufTy).Contents (Elt F)),
    StableHlo.nullary main_while0b_cst_15 (constant S_ .f32 0x00000000#32),
    StableHlo.binary main_while0b_v51 main_while0b_cst_15 main_while0b_v52 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F)),
    StableHlo.binary main_v5_4 main_while0b_v52 main_while0b_v53 (minimumf : (⟨S16x2048, .f32⟩ : BufTy).Contents (Elt F) → (⟨S16x2048, .f32⟩ : BufTy).Contents (Elt F) → (⟨S16x2048, .f32⟩ : BufTy).Contents (Elt F)) ]

/-- The body's operations 26 … 30 of 37. -/
abbrev trip_w3 : List (HloOp τ sig (Elt F)) :=
  [ StableHlo.TRef.nullary (.of main_while0b_call1_v0 : StableHlo.TRef sig ⟨S16x2048, .i32⟩) (iotaInDim S16x2048 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v53 : StableHlo.TRef sig ⟨S16x2048, .f32⟩) (.of main_while0b_call1_v0 : StableHlo.TRef sig ⟨S16x2048, .i32⟩) (.of main_while0b_call1_cst : StableHlo.TRef sig ⟨S_, .f32⟩) (.of main_while0b_call1_c : StableHlo.TRef sig ⟨S_, .i32⟩) (.of main_while0b_call1_v1_0 : StableHlo.TRef sig ⟨S16, .f32⟩) (fun x y u v j => (Host.argReduce reducer_argmax_f32_i32 x y u v reducesTo_S16x2048_S16_d1 h_S_ j).1),
    StableHlo.TRef.quaternary (.of main_while0b_v53 : StableHlo.TRef sig ⟨S16x2048, .f32⟩) (.of main_while0b_call1_v0 : StableHlo.TRef sig ⟨S16x2048, .i32⟩) (.of main_while0b_call1_cst : StableHlo.TRef sig ⟨S_, .f32⟩) (.of main_while0b_call1_c : StableHlo.TRef sig ⟨S_, .i32⟩) (.of main_while0b_v54 : StableHlo.TRef sig ⟨S16, .i32⟩) (fun x y u v j => (Host.argReduce reducer_argmax_f32_i32 x y u v reducesTo_S16x2048_S16_d1 h_S_ j).2) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 := rfl

set_option maxRecDepth 8192 in
/-- `main_while0b_v47`'s composed term of the carried buffers (named: it is used 3 times). -/
def res_main_while0b_v47 (V0 : Valuation τ sig (Elt F)) : (Proc.devRef .tc main_while0b_v47 : DevRef τ sig).ty.Contents (Elt F) :=
  broadcastInDim S16x1x1 ![0] bcast_S16_S16x1x1_0 (V0 (Proc.devRef .tc main_v5_5))

set_option maxRecDepth 8192 in
/-- `main_while0b_v50`'s composed term of the carried buffers (named: it is used 2 times). -/
def res_main_while0b_v50 (V0 : Valuation τ sig (Elt F)) : (Proc.devRef .tc main_while0b_v50 : DevRef τ sig).ty.Contents (Elt F) :=
  subf (V0 (Proc.devRef .tc main_v5_0)) (broadcastInDim S16x2048x3 ![0, 1, 2] bcast_S16x1x3_S16x2048x3_0_1_2 (Host.gather gather_S16x2048x3_S16x1x1_S16x1x3_2_1_0_0_1_2_113 (V0 (Proc.devRef .tc main_v5_0)) (select (cmpi .slt (res_main_while0b_v47 V0) (broadcastInDim S16x1x1 ![] bcast_S_S16x1x1 (constantI S_ 32 0#32))) (addi (res_main_while0b_v47 V0) (broadcastInDim S16x1x1 ![] bcast_S_S16x1x1 (constantI S_ 32 2048#32))) (res_main_while0b_v47 V0))))

set_option maxRecDepth 8192 in
/-- `main_while0b_v53`'s composed term of the carried buffers (named: it is used 3 times). -/
def res_main_while0b_v53 (V0 : Valuation τ sig (Elt F)) : (Proc.devRef .tc main_while0b_v53 : DevRef τ sig).ty.Contents (Elt F) :=
  minimumf (V0 (Proc.devRef .tc main_v5_4)) (Host.reduceAdd (mulf (res_main_while0b_v50 V0) (res_main_while0b_v50 V0)) (constant S_ .f32 0x00000000#32) reducesTo_S16x2048x3_S16x2048_d2 h_S_)

set_option maxRecDepth 8192 in
/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S16x2048 32 1

set_option maxRecDepth 8192 in
/-- `main_while0b_call1_cst`'s composed term of the carried buffers (named: it is used 2 times). -/
def res_main_while0b_call1_cst (V0 : Valuation τ sig (Elt F)) : (Proc.devRef .tc main_while0b_call1_cst : DevRef τ sig).ty.Contents (Elt F) :=
  constant S_ .f32 0xFF800000#32

set_option maxRecDepth 8192 in
/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 32 0#32

/-- The device's buffer contents before the body's first window. -/
def val0 (V0 : Valuation τ sig (Elt F)) : Valuation τ sig (Elt F) := V0
theorem val0_main_v5_2 (V0 : Valuation τ sig (Elt F)) : val0 V0 (no_index (Proc.devRef .tc main_v5_2)) = V0 (Proc.devRef .tc main_v5_2) := rfl
theorem val0_main_v5_3 (V0 : Valuation τ sig (Elt F)) : val0 V0 (no_index (Proc.devRef .tc main_v5_3)) = V0 (Proc.devRef .tc main_v5_3) := rfl
theorem val0_main_v5_5 (V0 : Valuation τ sig (Elt F)) : val0 V0 (no_index (Proc.devRef .tc main_v5_5)) = V0 (Proc.devRef .tc main_v5_5) := rfl
theorem val0_main_v5_0 (V0 : Valuation τ sig (Elt F)) : val0 V0 (no_index (Proc.devRef .tc main_v5_0)) = V0 (Proc.devRef .tc main_v5_0) := rfl
theorem val0_main_v5_4 (V0 : Valuation τ sig (Elt F)) : val0 V0 (no_index (Proc.devRef .tc main_v5_4)) = V0 (Proc.devRef .tc main_v5_4) := rfl
theorem val0_main_v5_1 (V0 : Valuation τ sig (Elt F)) : val0 V0 (no_index (Proc.devRef .tc main_v5_1)) = V0 (Proc.devRef .tc main_v5_1) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_c_12, main_while0b_v40, main_while0b_c_13, main_while0b_v41, main_while0b_c_14, main_while0b_v42, main_while0b_v43, main_while0b_v44, main_while0b_v45, main_while0b_v46, main_while0b_v47]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v5_2 (V0 : Valuation τ sig (Elt F)) : val1 V0 (no_index (Proc.devRef .tc main_v5_2)) = V0 (Proc.devRef .tc main_v5_2) :=
  (val1_keep V0 main_v5_2 (by decide)).trans (val0_main_v5_2 V0)
theorem val1_main_v5_3 (V0 : Valuation τ sig (Elt F)) : val1 V0 (no_index (Proc.devRef .tc main_v5_3)) = V0 (Proc.devRef .tc main_v5_3) :=
  (val1_keep V0 main_v5_3 (by decide)).trans (val0_main_v5_3 V0)
theorem val1_main_v5_5 (V0 : Valuation τ sig (Elt F)) : val1 V0 (no_index (Proc.devRef .tc main_v5_5)) = V0 (Proc.devRef .tc main_v5_5) :=
  (val1_keep V0 main_v5_5 (by decide)).trans (val0_main_v5_5 V0)
theorem val1_main_v5_0 (V0 : Valuation τ sig (Elt F)) : val1 V0 (no_index (Proc.devRef .tc main_v5_0)) = V0 (Proc.devRef .tc main_v5_0) :=
  (val1_keep V0 main_v5_0 (by decide)).trans (val0_main_v5_0 V0)
theorem val1_main_v5_4 (V0 : Valuation τ sig (Elt F)) : val1 V0 (no_index (Proc.devRef .tc main_v5_4)) = V0 (Proc.devRef .tc main_v5_4) :=
  (val1_keep V0 main_v5_4 (by decide)).trans (val0_main_v5_4 V0)
theorem val1_main_v5_1 (V0 : Valuation τ sig (Elt F)) : val1 V0 (no_index (Proc.devRef .tc main_v5_1)) = V0 (Proc.devRef .tc main_v5_1) :=
  (val1_keep V0 main_v5_1 (by decide)).trans (val0_main_v5_1 V0)
set_option maxRecDepth 8192 in
set_option maxHeartbeats 1100000 in
theorem val1_main_while0b_v40 (V0 : Valuation τ sig (Elt F)) : val1 V0 (no_index (Proc.devRef .tc main_while0b_v40)) = addi (V0 (Proc.devRef .tc main_v5_2)) (constantI S_ 32 1#32) := by
  unfold val1
  simp only [trip_w0]
  after_results_entrywise [val0_main_v5_2, cast_eq]
set_option maxRecDepth 8192 in
set_option maxHeartbeats 1100000 in
theorem val1_main_while0b_v46 (V0 : Valuation τ sig (Elt F)) : val1 V0 (no_index (Proc.devRef .tc main_while0b_v46)) = Host.scatter scatter_S16x512_S1_S16_0_1_1_0 (fun _ b => b) (V0 (Proc.devRef .tc main_v5_3)) (broadcastInDim S1 ![] bcast_S_S1 (id (select (cmpi .slt (V0 (Proc.devRef .tc main_v5_2)) (constantI S_ 32 0#32)) (addi (V0 (Proc.devRef .tc main_v5_2)) (constantI S_ 32 512#32)) (V0 (Proc.devRef .tc main_v5_2))))) (V0 (Proc.devRef .tc main_v5_5)) := by
  unfold val1
  simp only [trip_w0]
  after_results_entrywise [val0_main_v5_5, val0_main_v5_2, val0_main_v5_3, cast_eq]
set_option maxRecDepth 8192 in
set_option maxHeartbeats 1100000 in
theorem val1_main_while0b_v47 (V0 : Valuation τ sig (Elt F)) : val1 V0 (no_index (Proc.devRef .tc main_while0b_v47)) = res_main_while0b_v47 V0 := by
  unfold val1
  simp only [trip_w0]
  after_results_entrywise [val0_main_v5_5, res_main_while0b_v47, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_call0_c, main_while0b_call0_v0, main_while0b_call0_v1, main_while0b_call0_c_0, main_while0b_call0_v2, main_while0b_call0_v3, main_while0b_call0_v4, main_while0b_v48]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v5_2 (V0 : Valuation τ sig (Elt F)) : val2 V0 (no_index (Proc.devRef .tc main_v5_2)) = V0 (Proc.devRef .tc main_v5_2) :=
  (val2_keep V0 main_v5_2 (by decide)).trans (val1_main_v5_2 V0)
theorem val2_main_v5_3 (V0 : Valuation τ sig (Elt F)) : val2 V0 (no_index (Proc.devRef .tc main_v5_3)) = V0 (Proc.devRef .tc main_v5_3) :=
  (val2_keep V0 main_v5_3 (by decide)).trans (val1_main_v5_3 V0)
theorem val2_main_v5_5 (V0 : Valuation τ sig (Elt F)) : val2 V0 (no_index (Proc.devRef .tc main_v5_5)) = V0 (Proc.devRef .tc main_v5_5) :=
  (val2_keep V0 main_v5_5 (by decide)).trans (val1_main_v5_5 V0)
theorem val2_main_v5_0 (V0 : Valuation τ sig (Elt F)) : val2 V0 (no_index (Proc.devRef .tc main_v5_0)) = V0 (Proc.devRef .tc main_v5_0) :=
  (val2_keep V0 main_v5_0 (by decide)).trans (val1_main_v5_0 V0)
theorem val2_main_v5_4 (V0 : Valuation τ sig (Elt F)) : val2 V0 (no_index (Proc.devRef .tc main_v5_4)) = V0 (Proc.devRef .tc main_v5_4) :=
  (val2_keep V0 main_v5_4 (by decide)).trans (val1_main_v5_4 V0)
theorem val2_main_v5_1 (V0 : Valuation τ sig (Elt F)) : val2 V0 (no_index (Proc.devRef .tc main_v5_1)) = V0 (Proc.devRef .tc main_v5_1) :=
  (val2_keep V0 main_v5_1 (by decide)).trans (val1_main_v5_1 V0)
theorem val2_main_while0b_v40 (V0 : Valuation τ sig (Elt F)) : val2 V0 (no_index (Proc.devRef .tc main_while0b_v40)) = addi (V0 (Proc.devRef .tc main_v5_2)) (constantI S_ 32 1#32) :=
  (val2_keep V0 main_while0b_v40 (by decide)).trans (val1_main_while0b_v40 V0)
theorem val2_main_while0b_v46 (V0 : Valuation τ sig (Elt F)) : val2 V0 (no_index (Proc.devRef .tc main_while0b_v46)) = Host.scatter scatter_S16x512_S1_S16_0_1_1_0 (fun _ b => b) (V0 (Proc.devRef .tc main_v5_3)) (broadcastInDim S1 ![] bcast_S_S1 (id (select (cmpi .slt (V0 (Proc.devRef .tc main_v5_2)) (constantI S_ 32 0#32)) (addi (V0 (Proc.devRef .tc main_v5_2)) (constantI S_ 32 512#32)) (V0 (Proc.devRef .tc main_v5_2))))) (V0 (Proc.devRef .tc main_v5_5)) :=
  (val2_keep V0 main_while0b_v46 (by decide)).trans (val1_main_while0b_v46 V0)
set_option maxRecDepth 8192 in
theorem val2_main_while0b_v48 (V0 : Valuation τ sig (Elt F)) : val2 V0 (no_index (Proc.devRef .tc main_while0b_v48)) = Host.gather gather_S16x2048x3_S16x1x1_S16x1x3_2_1_0_0_1_2_113 (V0 (Proc.devRef .tc main_v5_0)) (select (cmpi .slt (res_main_while0b_v47 V0) (broadcastInDim S16x1x1 ![] bcast_S_S16x1x1 (constantI S_ 32 0#32))) (addi (res_main_while0b_v47 V0) (broadcastInDim S16x1x1 ![] bcast_S_S16x1x1 (constantI S_ 32 2048#32))) (res_main_while0b_v47 V0)) := by
  unfold val2
  simp only [trip_w1]
  after_results_entrywise [val1_main_while0b_v47, val1_main_v5_0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v49, main_while0b_v50, main_while0b_v51, main_while0b_cst_15, main_while0b_v52, main_while0b_v53]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v5_2 (V0 : Valuation τ sig (Elt F)) : val3 V0 (no_index (Proc.devRef .tc main_v5_2)) = V0 (Proc.devRef .tc main_v5_2) :=
  (val3_keep V0 main_v5_2 (by decide)).trans (val2_main_v5_2 V0)
theorem val3_main_v5_3 (V0 : Valuation τ sig (Elt F)) : val3 V0 (no_index (Proc.devRef .tc main_v5_3)) = V0 (Proc.devRef .tc main_v5_3) :=
  (val3_keep V0 main_v5_3 (by decide)).trans (val2_main_v5_3 V0)
theorem val3_main_v5_5 (V0 : Valuation τ sig (Elt F)) : val3 V0 (no_index (Proc.devRef .tc main_v5_5)) = V0 (Proc.devRef .tc main_v5_5) :=
  (val3_keep V0 main_v5_5 (by decide)).trans (val2_main_v5_5 V0)
theorem val3_main_v5_0 (V0 : Valuation τ sig (Elt F)) : val3 V0 (no_index (Proc.devRef .tc main_v5_0)) = V0 (Proc.devRef .tc main_v5_0) :=
  (val3_keep V0 main_v5_0 (by decide)).trans (val2_main_v5_0 V0)
theorem val3_main_v5_4 (V0 : Valuation τ sig (Elt F)) : val3 V0 (no_index (Proc.devRef .tc main_v5_4)) = V0 (Proc.devRef .tc main_v5_4) :=
  (val3_keep V0 main_v5_4 (by decide)).trans (val2_main_v5_4 V0)
theorem val3_main_v5_1 (V0 : Valuation τ sig (Elt F)) : val3 V0 (no_index (Proc.devRef .tc main_v5_1)) = V0 (Proc.devRef .tc main_v5_1) :=
  (val3_keep V0 main_v5_1 (by decide)).trans (val2_main_v5_1 V0)
theorem val3_main_while0b_v40 (V0 : Valuation τ sig (Elt F)) : val3 V0 (no_index (Proc.devRef .tc main_while0b_v40)) = addi (V0 (Proc.devRef .tc main_v5_2)) (constantI S_ 32 1#32) :=
  (val3_keep V0 main_while0b_v40 (by decide)).trans (val2_main_while0b_v40 V0)
theorem val3_main_while0b_v46 (V0 : Valuation τ sig (Elt F)) : val3 V0 (no_index (Proc.devRef .tc main_while0b_v46)) = Host.scatter scatter_S16x512_S1_S16_0_1_1_0 (fun _ b => b) (V0 (Proc.devRef .tc main_v5_3)) (broadcastInDim S1 ![] bcast_S_S1 (id (select (cmpi .slt (V0 (Proc.devRef .tc main_v5_2)) (constantI S_ 32 0#32)) (addi (V0 (Proc.devRef .tc main_v5_2)) (constantI S_ 32 512#32)) (V0 (Proc.devRef .tc main_v5_2))))) (V0 (Proc.devRef .tc main_v5_5)) :=
  (val3_keep V0 main_while0b_v46 (by decide)).trans (val2_main_while0b_v46 V0)
set_option maxRecDepth 8192 in
theorem val3_main_while0b_v53 (V0 : Valuation τ sig (Elt F)) : val3 V0 (no_index (Proc.devRef .tc main_while0b_v53)) = res_main_while0b_v53 V0 := by
  unfold val3
  simp only [trip_w2]
  after_results_entrywise [val2_main_while0b_v48, val2_main_v5_0, val2_main_v5_4, res_main_while0b_v50, res_main_while0b_v53, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_call1_v0, main_while0b_call1_cst, main_while0b_call1_c, main_while0b_call1_v1_0, main_while0b_v54]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v5_2 (V0 : Valuation τ sig (Elt F)) : val4 V0 (no_index (Proc.devRef .tc main_v5_2)) = V0 (Proc.devRef .tc main_v5_2) :=
  (val4_keep V0 main_v5_2 (by decide)).trans (val3_main_v5_2 V0)
theorem val4_main_v5_3 (V0 : Valuation τ sig (Elt F)) : val4 V0 (no_index (Proc.devRef .tc main_v5_3)) = V0 (Proc.devRef .tc main_v5_3) :=
  (val4_keep V0 main_v5_3 (by decide)).trans (val3_main_v5_3 V0)
theorem val4_main_v5_5 (V0 : Valuation τ sig (Elt F)) : val4 V0 (no_index (Proc.devRef .tc main_v5_5)) = V0 (Proc.devRef .tc main_v5_5) :=
  (val4_keep V0 main_v5_5 (by decide)).trans (val3_main_v5_5 V0)
theorem val4_main_v5_0 (V0 : Valuation τ sig (Elt F)) : val4 V0 (no_index (Proc.devRef .tc main_v5_0)) = V0 (Proc.devRef .tc main_v5_0) :=
  (val4_keep V0 main_v5_0 (by decide)).trans (val3_main_v5_0 V0)
theorem val4_main_v5_4 (V0 : Valuation τ sig (Elt F)) : val4 V0 (no_index (Proc.devRef .tc main_v5_4)) = V0 (Proc.devRef .tc main_v5_4) :=
  (val4_keep V0 main_v5_4 (by decide)).trans (val3_main_v5_4 V0)
theorem val4_main_v5_1 (V0 : Valuation τ sig (Elt F)) : val4 V0 (no_index (Proc.devRef .tc main_v5_1)) = V0 (Proc.devRef .tc main_v5_1) :=
  (val4_keep V0 main_v5_1 (by decide)).trans (val3_main_v5_1 V0)
theorem val4_main_while0b_v40 (V0 : Valuation τ sig (Elt F)) : val4 V0 (no_index (Proc.devRef .tc main_while0b_v40)) = addi (V0 (Proc.devRef .tc main_v5_2)) (constantI S_ 32 1#32) :=
  (val4_keep V0 main_while0b_v40 (by decide)).trans (val3_main_while0b_v40 V0)
theorem val4_main_while0b_v46 (V0 : Valuation τ sig (Elt F)) : val4 V0 (no_index (Proc.devRef .tc main_while0b_v46)) = Host.scatter scatter_S16x512_S1_S16_0_1_1_0 (fun _ b => b) (V0 (Proc.devRef .tc main_v5_3)) (broadcastInDim S1 ![] bcast_S_S1 (id (select (cmpi .slt (V0 (Proc.devRef .tc main_v5_2)) (constantI S_ 32 0#32)) (addi (V0 (Proc.devRef .tc main_v5_2)) (constantI S_ 32 512#32)) (V0 (Proc.devRef .tc main_v5_2))))) (V0 (Proc.devRef .tc main_v5_5)) :=
  (val4_keep V0 main_while0b_v46 (by decide)).trans (val3_main_while0b_v46 V0)
theorem val4_main_while0b_v53 (V0 : Valuation τ sig (Elt F)) : val4 V0 (no_index (Proc.devRef .tc main_while0b_v53)) = res_main_while0b_v53 V0 :=
  (val4_keep V0 main_while0b_v53 (by decide)).trans (val3_main_while0b_v53 V0)
set_option maxRecDepth 8192 in
theorem val4_main_while0b_v54 (V0 : Valuation τ sig (Elt F)) : val4 V0 (no_index (Proc.devRef .tc main_while0b_v54)) = (fun j => (Host.argReduce reducer_argmax_f32_i32 (res_main_while0b_v53 V0) (res_main_while0b_call1_v0 V0) (res_main_while0b_call1_cst V0) (res_main_while0b_call1_c V0) reducesTo_S16x2048_S16_d1 h_S_ j).2) := by
  unfold val4
  simp only [trip_w3]
  after_results_entrywise [val3_main_while0b_v53, res_main_while0b_call1_v0, res_main_while0b_call1_cst, res_main_while0b_call1_c, cast_eq]

set_option maxRecDepth 8192 in
/-- The body's stretches before `while0Ops0_4`, from any contents: their windows in order. -/
theorem trip_windows (V0 : Valuation τ sig (Elt F)) : after while0Ops0_3 (after while0Ops0_2 (after while0Ops0_1 (after while0Ops0 (V0)))) = val4 V0 := by
  simp only [while0Ops0_cut, while0Ops0_1_cut, while0Ops0_2_cut, while0Ops0_3_cut, after_append]
  rfl

set_option maxRecDepth 8192 in
set_option maxHeartbeats 2000000 in
/-- `main_v5_0` after one trip's body, from any contents. -/
theorem trip_main_v5_0 (V0 : Valuation τ sig (Elt F)) : afterL bodyI V0 (no_index (Proc.devRef .tc main_v5_0)) = V0 (Proc.devRef .tc main_v5_0) := by
  simp only [bodyI, afterL_cons, afterL_nil, trip_windows]
  after_results
  all_goals (try simp only [val4_main_while0b_v40, val4_main_while0b_v46, val4_main_while0b_v53, val4_main_while0b_v54, val4_main_v5_0, val4_main_v5_1, val4_main_v5_2, val4_main_v5_3, val4_main_v5_4, val4_main_v5_5]) <;> rfl
set_option maxRecDepth 8192 in
set_option maxHeartbeats 2000000 in
/-- `main_v5_1` after one trip's body, from any contents. -/
theorem trip_main_v5_1 (V0 : Valuation τ sig (Elt F)) : afterL bodyI V0 (no_index (Proc.devRef .tc main_v5_1)) = id (addi (V0 (Proc.devRef .tc main_v5_1)) (constantI S_ 32 1#32)) := by
  simp only [bodyI, afterL_cons, afterL_nil, trip_windows]
  after_results
  all_goals (try simp only [val4_main_while0b_v40, val4_main_while0b_v46, val4_main_while0b_v53, val4_main_while0b_v54, val4_main_v5_0, val4_main_v5_1, val4_main_v5_2, val4_main_v5_3, val4_main_v5_4, val4_main_v5_5]) <;> rfl
set_option maxRecDepth 8192 in
set_option maxHeartbeats 2000000 in
/-- `main_v5_2` after one trip's body, from any contents. -/
theorem trip_main_v5_2 (V0 : Valuation τ sig (Elt F)) : afterL bodyI V0 (no_index (Proc.devRef .tc main_v5_2)) = id (addi (V0 (Proc.devRef .tc main_v5_2)) (constantI S_ 32 1#32)) := by
  simp only [bodyI, afterL_cons, afterL_nil, trip_windows]
  after_results
  all_goals (try simp only [val4_main_while0b_v40, val4_main_while0b_v46, val4_main_while0b_v53, val4_main_while0b_v54, val4_main_v5_0, val4_main_v5_1, val4_main_v5_2, val4_main_v5_3, val4_main_v5_4, val4_main_v5_5]) <;> rfl
set_option maxRecDepth 8192 in
set_option maxHeartbeats 2000000 in
/-- `main_v5_3` after one trip's body, from any contents. -/
theorem trip_main_v5_3 (V0 : Valuation τ sig (Elt F)) : afterL bodyI V0 (no_index (Proc.devRef .tc main_v5_3)) = id (Host.scatter scatter_S16x512_S1_S16_0_1_1_0 (fun _ b => b) (V0 (Proc.devRef .tc main_v5_3)) (broadcastInDim S1 ![] bcast_S_S1 (id (select (cmpi .slt (V0 (Proc.devRef .tc main_v5_2)) (constantI S_ 32 0#32)) (addi (V0 (Proc.devRef .tc main_v5_2)) (constantI S_ 32 512#32)) (V0 (Proc.devRef .tc main_v5_2))))) (V0 (Proc.devRef .tc main_v5_5))) := by
  simp only [bodyI, afterL_cons, afterL_nil, trip_windows]
  after_results
  all_goals (try simp only [val4_main_while0b_v40, val4_main_while0b_v46, val4_main_while0b_v53, val4_main_while0b_v54, val4_main_v5_0, val4_main_v5_1, val4_main_v5_2, val4_main_v5_3, val4_main_v5_4, val4_main_v5_5]) <;> rfl
set_option maxRecDepth 8192 in
set_option maxHeartbeats 2000000 in
/-- `main_v5_4` after one trip's body, from any contents. -/
theorem trip_main_v5_4 (V0 : Valuation τ sig (Elt F)) : afterL bodyI V0 (no_index (Proc.devRef .tc main_v5_4)) = id (res_main_while0b_v53 V0) := by
  simp only [bodyI, afterL_cons, afterL_nil, trip_windows]
  after_results
  all_goals (try simp only [val4_main_while0b_v40, val4_main_while0b_v46, val4_main_while0b_v53, val4_main_while0b_v54, val4_main_v5_0, val4_main_v5_1, val4_main_v5_2, val4_main_v5_3, val4_main_v5_4, val4_main_v5_5]) <;> rfl
set_option maxRecDepth 8192 in
set_option maxHeartbeats 2000000 in
/-- `main_v5_5` after one trip's body, from any contents. -/
theorem trip_main_v5_5 (V0 : Valuation τ sig (Elt F)) : afterL bodyI V0 (no_index (Proc.devRef .tc main_v5_5)) = id ((fun j => (Host.argReduce reducer_argmax_f32_i32 (res_main_while0b_v53 V0) (res_main_while0b_call1_v0 V0) (res_main_while0b_call1_cst V0) (res_main_while0b_call1_c V0) reducesTo_S16x2048_S16_d1 h_S_ j).2)) := by
  simp only [bodyI, afterL_cons, afterL_nil, trip_windows]
  after_results
  all_goals (try simp only [val4_main_while0b_v40, val4_main_while0b_v46, val4_main_while0b_v53, val4_main_while0b_v54, val4_main_v5_0, val4_main_v5_1, val4_main_v5_2, val4_main_v5_3, val4_main_v5_4, val4_main_v5_5]) <;> rfl

/-- The loop's carried buffers. -/
abbrev carriedRefs : List (Ref sig .tc) := [main_v5_0, main_v5_1, main_v5_2, main_v5_3, main_v5_4, main_v5_5]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v47_congr {V0 V0' : Valuation τ sig (Elt F)} (h : Agree V0 V0') : res_main_while0b_v47 V0 = res_main_while0b_v47 V0' := by
  unfold res_main_while0b_v47
  rw [h main_v5_5 (by decide)]
set_option maxRecDepth 8192 in
theorem res_main_while0b_v50_congr {V0 V0' : Valuation τ sig (Elt F)} (h : Agree V0 V0') : res_main_while0b_v50 V0 = res_main_while0b_v50 V0' := by
  unfold res_main_while0b_v50
  rw [res_main_while0b_v47_congr h, h main_v5_0 (by decide)]
set_option maxRecDepth 8192 in
theorem res_main_while0b_v53_congr {V0 V0' : Valuation τ sig (Elt F)} (h : Agree V0 V0') : res_main_while0b_v53 V0 = res_main_while0b_v53 V0' := by
  unfold res_main_while0b_v53
  rw [res_main_while0b_v50_congr h, h main_v5_4 (by decide)]
set_option maxRecDepth 8192 in
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
theorem res_main_while0b_call1_cst_congr {V0 V0' : Valuation τ sig (Elt F)} (h : Agree V0 V0') : res_main_while0b_call1_cst V0 = res_main_while0b_call1_cst V0' := by
  unfold res_main_while0b_call1_cst
  rfl
set_option maxRecDepth 8192 in
theorem res_main_while0b_call1_c_congr {V0 V0' : Valuation τ sig (Elt F)} (h : Agree V0 V0') : res_main_while0b_call1_c V0 = res_main_while0b_call1_c V0' := by
  unfold res_main_while0b_call1_c
  rfl

set_option maxRecDepth 8192 in
/-- `main_v5_1` after one trip, of the contents before it. -/
def step_main_v5_1 (V0 : Valuation τ sig (Elt F)) : (Proc.devRef .tc main_v5_1 : DevRef τ sig).ty.Contents (Elt F) :=
  id (addi (V0 (Proc.devRef .tc main_v5_1)) (constantI S_ 32 1#32))
set_option maxRecDepth 8192 in
theorem step_main_v5_1_congr {V0 V0' : Valuation τ sig (Elt F)} (h : Agree V0 V0') : step_main_v5_1 V0 = step_main_v5_1 V0' := by
  unfold step_main_v5_1
  rw [h main_v5_1 (by decide)]
set_option maxRecDepth 8192 in
/-- `main_v5_2` after one trip, of the contents before it. -/
def step_main_v5_2 (V0 : Valuation τ sig (Elt F)) : (Proc.devRef .tc main_v5_2 : DevRef τ sig).ty.Contents (Elt F) :=
  id (addi (V0 (Proc.devRef .tc main_v5_2)) (constantI S_ 32 1#32))
set_option maxRecDepth 8192 in
theorem step_main_v5_2_congr {V0 V0' : Valuation τ sig (Elt F)} (h : Agree V0 V0') : step_main_v5_2 V0 = step_main_v5_2 V0' := by
  unfold step_main_v5_2
  rw [h main_v5_2 (by decide)]
set_option maxRecDepth 8192 in
/-- `main_v5_3` after one trip, of the contents before it. -/
def step_main_v5_3 (V0 : Valuation τ sig (Elt F)) : (Proc.devRef .tc main_v5_3 : DevRef τ sig).ty.Contents (Elt F) :=
  id (Host.scatter scatter_S16x512_S1_S16_0_1_1_0 (fun _ b => b) (V0 (Proc.devRef .tc main_v5_3)) (broadcastInDim S1 ![] bcast_S_S1 (id (select (cmpi .slt (V0 (Proc.devRef .tc main_v5_2)) (constantI S_ 32 0#32)) (addi (V0 (Proc.devRef .tc main_v5_2)) (constantI S_ 32 512#32)) (V0 (Proc.devRef .tc main_v5_2))))) (V0 (Proc.devRef .tc main_v5_5)))
set_option maxRecDepth 8192 in
theorem step_main_v5_3_congr {V0 V0' : Valuation τ sig (Elt F)} (h : Agree V0 V0') : step_main_v5_3 V0 = step_main_v5_3 V0' := by
  unfold step_main_v5_3
  rw [h main_v5_3 (by decide), h main_v5_2 (by decide), h main_v5_5 (by decide)]
set_option maxRecDepth 8192 in
/-- `main_v5_4` after one trip, of the contents before it. -/
def step_main_v5_4 (V0 : Valuation τ sig (Elt F)) : (Proc.devRef .tc main_v5_4 : DevRef τ sig).ty.Contents (Elt F) :=
  id (res_main_while0b_v53 V0)
set_option maxRecDepth 8192 in
theorem step_main_v5_4_congr {V0 V0' : Valuation τ sig (Elt F)} (h : Agree V0 V0') : step_main_v5_4 V0 = step_main_v5_4 V0' := by
  unfold step_main_v5_4
  rw [res_main_while0b_v53_congr h]
set_option maxRecDepth 8192 in
/-- `main_v5_5` after one trip, of the contents before it. -/
def step_main_v5_5 (V0 : Valuation τ sig (Elt F)) : (Proc.devRef .tc main_v5_5 : DevRef τ sig).ty.Contents (Elt F) :=
  id ((fun j => (Host.argReduce reducer_argmax_f32_i32 (res_main_while0b_v53 V0) (res_main_while0b_call1_v0 V0) (res_main_while0b_call1_cst V0) (res_main_while0b_call1_c V0) reducesTo_S16x2048_S16_d1 h_S_ j).2))
set_option maxRecDepth 8192 in
theorem step_main_v5_5_congr {V0 V0' : Valuation τ sig (Elt F)} (h : Agree V0 V0') : step_main_v5_5 V0 = step_main_v5_5 V0' := by
  unfold step_main_v5_5
  rw [res_main_while0b_v53_congr h, res_main_while0b_call1_v0_congr h, res_main_while0b_call1_cst_congr h, res_main_while0b_call1_c_congr h]

/-- ONE TRIP on the carried buffers: the buffers the body writes step, everything else is as it was. -/
def STEP (V0 : Valuation τ sig (Elt F)) : Valuation τ sig (Elt F) :=
  Function.update (Function.update (Function.update (Function.update (Function.update (V0) (Proc.devRef .tc main_v5_1) (step_main_v5_1 V0)) (Proc.devRef .tc main_v5_2) (step_main_v5_2 V0)) (Proc.devRef .tc main_v5_3) (step_main_v5_3 V0)) (Proc.devRef .tc main_v5_4) (step_main_v5_4 V0)) (Proc.devRef .tc main_v5_5) (step_main_v5_5 V0)

theorem STEP_main_v5_0 (V0 : Valuation τ sig (Elt F)) : STEP V0 (Proc.devRef .tc main_v5_0) = V0 (Proc.devRef .tc main_v5_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v5_1 (V0 : Valuation τ sig (Elt F)) : STEP V0 (Proc.devRef .tc main_v5_1) = step_main_v5_1 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v5_2 (V0 : Valuation τ sig (Elt F)) : STEP V0 (Proc.devRef .tc main_v5_2) = step_main_v5_2 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v5_3 (V0 : Valuation τ sig (Elt F)) : STEP V0 (Proc.devRef .tc main_v5_3) = step_main_v5_3 V0 := by
  unfold STEP; rw [Function.update_of_ne (devRef_ne_of_ne (by decide))]; rw [Function.update_of_ne (devRef_ne_of_ne (by decide))]; rw [Function.update_self]
theorem STEP_main_v5_4 (V0 : Valuation τ sig (Elt F)) : STEP V0 (Proc.devRef .tc main_v5_4) = step_main_v5_4 V0 := by
  unfold STEP; rw [Function.update_of_ne (devRef_ne_of_ne (by decide))]; rw [Function.update_self]
theorem STEP_main_v5_5 (V0 : Valuation τ sig (Elt F)) : STEP V0 (Proc.devRef .tc main_v5_5) = step_main_v5_5 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v5_0 (after condOps X)).trans ((hc main_v5_0 (by decide)).trans (STEP_main_v5_0 X).symm)
  · exact (trip_main_v5_1 (after condOps X)).trans ((step_main_v5_1_congr hc).trans (STEP_main_v5_1 X).symm)
  · exact (trip_main_v5_2 (after condOps X)).trans ((step_main_v5_2_congr hc).trans (STEP_main_v5_2 X).symm)
  · exact (trip_main_v5_3 (after condOps X)).trans ((step_main_v5_3_congr hc).trans (STEP_main_v5_3 X).symm)
  · exact (trip_main_v5_4 (after condOps X)).trans ((step_main_v5_4_congr hc).trans (STEP_main_v5_4 X).symm)
  · exact (trip_main_v5_5 (after condOps X)).trans ((step_main_v5_5_congr hc).trans (STEP_main_v5_5 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v5_0, STEP_main_v5_0]; exact h main_v5_0 (by decide)
  · rw [STEP_main_v5_1, STEP_main_v5_1]; exact step_main_v5_1_congr h
  · rw [STEP_main_v5_2, STEP_main_v5_2]; exact step_main_v5_2_congr h
  · rw [STEP_main_v5_3, STEP_main_v5_3]; exact step_main_v5_3_congr h
  · rw [STEP_main_v5_4, STEP_main_v5_4]; exact step_main_v5_4_congr h
  · rw [STEP_main_v5_5, STEP_main_v5_5]; exact step_main_v5_5_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
theorem keep_main_arg0_hostOps0_6 (V : Valuation τ sig (Elt F)) : after hostOps0_6 V (Proc.devRef .tc main_arg0) = V (Proc.devRef .tc main_arg0) :=
  after_of_writes_sub hostOps0_6 V hostOps0_6_writes (by decide +kernel)
theorem keep_main_arg0_hostOps0_7 (V : Valuation τ sig (Elt F)) : after hostOps0_7 V (Proc.devRef .tc main_arg0) = V (Proc.devRef .tc main_arg0) :=
  after_of_writes_sub hostOps0_7 V hostOps0_7_writes (by decide +kernel)
theorem keep_main_arg0_hostOps0_8 (V : Valuation τ sig (Elt F)) : after hostOps0_8 V (Proc.devRef .tc main_arg0) = V (Proc.devRef .tc main_arg0) :=
  after_of_writes_sub hostOps0_8 V hostOps0_8_writes (by decide +kernel)
theorem keep_main_arg0_hostOps0_9 (V : Valuation τ sig (Elt F)) : after hostOps0_9 V (Proc.devRef .tc main_arg0) = V (Proc.devRef .tc main_arg0) :=
  after_of_writes_sub hostOps0_9 V hostOps0_9_writes (by decide +kernel)
theorem keep_main_arg0_hostOps0_10 (V : Valuation τ sig (Elt F)) : after hostOps0_10 V (Proc.devRef .tc main_arg0) = V (Proc.devRef .tc main_arg0) :=
  after_of_writes_sub hostOps0_10 V hostOps0_10_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
theorem keep_main_arg1_hostOps0_5 (V : Valuation τ sig (Elt F)) : after hostOps0_5 V (Proc.devRef .tc main_arg1) = V (Proc.devRef .tc main_arg1) :=
  after_of_writes_sub hostOps0_5 V hostOps0_5_writes (by decide +kernel)
theorem keep_main_arg1_hostOps0_6 (V : Valuation τ sig (Elt F)) : after hostOps0_6 V (Proc.devRef .tc main_arg1) = V (Proc.devRef .tc main_arg1) :=
  after_of_writes_sub hostOps0_6 V hostOps0_6_writes (by decide +kernel)
theorem keep_main_arg1_hostOps0_7 (V : Valuation τ sig (Elt F)) : after hostOps0_7 V (Proc.devRef .tc main_arg1) = V (Proc.devRef .tc main_arg1) :=
  after_of_writes_sub hostOps0_7 V hostOps0_7_writes (by decide +kernel)
theorem keep_main_arg1_hostOps0_8 (V : Valuation τ sig (Elt F)) : after hostOps0_8 V (Proc.devRef .tc main_arg1) = V (Proc.devRef .tc main_arg1) :=
  after_of_writes_sub hostOps0_8 V hostOps0_8_writes (by decide +kernel)
theorem keep_main_arg1_hostOps0_9 (V : Valuation τ sig (Elt F)) : after hostOps0_9 V (Proc.devRef .tc main_arg1) = V (Proc.devRef .tc main_arg1) :=
  after_of_writes_sub hostOps0_9 V hostOps0_9_writes (by decide +kernel)
theorem keep_main_arg1_hostOps0_10 (V : Valuation τ sig (Elt F)) : after hostOps0_10 V (Proc.devRef .tc main_arg1) = V (Proc.devRef .tc main_arg1) :=
  after_of_writes_sub hostOps0_10 V hostOps0_10_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_4, keep_main_arg1_while0Ops0_3, keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_while0Ops0_4 (V : Valuation τ sig (Elt F)) : after while0Ops0_4 V (Proc.devRef .tc main_arg2) = V (Proc.devRef .tc main_arg2) :=
  after_of_writes_sub while0Ops0_4 V while0Ops0_4_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
theorem keep_main_arg2_hostOps0_4 (V : Valuation τ sig (Elt F)) : after hostOps0_4 V (Proc.devRef .tc main_arg2) = V (Proc.devRef .tc main_arg2) :=
  after_of_writes_sub hostOps0_4 V hostOps0_4_writes (by decide +kernel)
theorem keep_main_arg2_hostOps0_5 (V : Valuation τ sig (Elt F)) : after hostOps0_5 V (Proc.devRef .tc main_arg2) = V (Proc.devRef .tc main_arg2) :=
  after_of_writes_sub hostOps0_5 V hostOps0_5_writes (by decide +kernel)
theorem keep_main_arg2_hostOps0_6 (V : Valuation τ sig (Elt F)) : after hostOps0_6 V (Proc.devRef .tc main_arg2) = V (Proc.devRef .tc main_arg2) :=
  after_of_writes_sub hostOps0_6 V hostOps0_6_writes (by decide +kernel)
theorem keep_main_arg2_hostOps0_7 (V : Valuation τ sig (Elt F)) : after hostOps0_7 V (Proc.devRef .tc main_arg2) = V (Proc.devRef .tc main_arg2) :=
  after_of_writes_sub hostOps0_7 V hostOps0_7_writes (by decide +kernel)
theorem keep_main_arg2_hostOps0_8 (V : Valuation τ sig (Elt F)) : after hostOps0_8 V (Proc.devRef .tc main_arg2) = V (Proc.devRef .tc main_arg2) :=
  after_of_writes_sub hostOps0_8 V hostOps0_8_writes (by decide +kernel)
theorem keep_main_arg2_hostOps0_9 (V : Valuation τ sig (Elt F)) : after hostOps0_9 V (Proc.devRef .tc main_arg2) = V (Proc.devRef .tc main_arg2) :=
  after_of_writes_sub hostOps0_9 V hostOps0_9_writes (by decide +kernel)
theorem keep_main_arg2_hostOps0_10 (V : Valuation τ sig (Elt F)) : after hostOps0_10 V (Proc.devRef .tc main_arg2) = V (Proc.devRef .tc main_arg2) :=
  after_of_writes_sub hostOps0_10 V hostOps0_10_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0]
  | k + 1 => by
    rw [show atK m (k + 1) c = afterL bodyI (after condOps (atK m k c)) from rfl]
    simp only [afterL_cons, afterL_nil]
    rw [keep_main_arg2_while0Ops0_4, keep_main_arg2_while0Ops0_3, keep_main_arg2_while0Ops0_2, keep_main_arg2_while0Ops0_1, keep_main_arg2_while0Ops0, keep_main_arg2_condOps, atK_main_arg2 c k]

theorem keep_main_arg3_hostOps0 (V : Valuation τ sig (Elt F)) : after hostOps0 V (Proc.devRef .tc main_arg3) = V (Proc.devRef .tc main_arg3) :=
  after_of_writes_sub hostOps0 V hostOps0_writes (by decide +kernel)
theorem keep_main_arg3_condOps (V : Valuation τ sig (Elt F)) : after condOps V (Proc.devRef .tc main_arg3) = V (Proc.devRef .tc main_arg3) :=
  after_of_writes_sub condOps V condOps_writes (by decide +kernel)
theorem keep_main_arg3_while0Ops0 (V : Valuation τ sig (Elt F)) : after while0Ops0 V (Proc.devRef .tc main_arg3) = V (Proc.devRef .tc main_arg3) :=
  after_of_writes_sub while0Ops0 V while0Ops0_writes (by decide +kernel)
theorem keep_main_arg3_while0Ops0_1 (V : Valuation τ sig (Elt F)) : after while0Ops0_1 V (Proc.devRef .tc main_arg3) = V (Proc.devRef .tc main_arg3) :=
  after_of_writes_sub while0Ops0_1 V while0Ops0_1_writes (by decide +kernel)
theorem keep_main_arg3_while0Ops0_2 (V : Valuation τ sig (Elt F)) : after while0Ops0_2 V (Proc.devRef .tc main_arg3) = V (Proc.devRef .tc main_arg3) :=
  after_of_writes_sub while0Ops0_2 V while0Ops0_2_writes (by decide +kernel)
theorem keep_main_arg3_while0Ops0_3 (V : Valuation τ sig (Elt F)) : after while0Ops0_3 V (Proc.devRef .tc main_arg3) = V (Proc.devRef .tc main_arg3) :=
  after_of_writes_sub while0Ops0_3 V while0Ops0_3_writes (by decide +kernel)
theorem keep_main_arg3_while0Ops0_4 (V : Valuation τ sig (Elt F)) : after while0Ops0_4 V (Proc.devRef .tc main_arg3) = V (Proc.devRef .tc main_arg3) :=
  after_of_writes_sub while0Ops0_4 V while0Ops0_4_writes (by decide +kernel)
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
theorem keep_main_arg3_hostOps0_2 (V : Valuation τ sig (Elt F)) : after hostOps0_2 V (Proc.devRef .tc main_arg3) = V (Proc.devRef .tc main_arg3) :=
  after_of_writes_sub hostOps0_2 V hostOps0_2_writes (by decide +kernel)
theorem keep_main_arg3_hostOps0_3 (V : Valuation τ sig (Elt F)) : after hostOps0_3 V (Proc.devRef .tc main_arg3) = V (Proc.devRef .tc main_arg3) :=
  after_of_writes_sub hostOps0_3 V hostOps0_3_writes (by decide +kernel)
theorem keep_main_arg3_hostOps0_4 (V : Valuation τ sig (Elt F)) : after hostOps0_4 V (Proc.devRef .tc main_arg3) = V (Proc.devRef .tc main_arg3) :=
  after_of_writes_sub hostOps0_4 V hostOps0_4_writes (by decide +kernel)
theorem keep_main_arg3_hostOps0_5 (V : Valuation τ sig (Elt F)) : after hostOps0_5 V (Proc.devRef .tc main_arg3) = V (Proc.devRef .tc main_arg3) :=
  after_of_writes_sub hostOps0_5 V hostOps0_5_writes (by decide +kernel)
theorem keep_main_arg3_hostOps0_6 (V : Valuation τ sig (Elt F)) : after hostOps0_6 V (Proc.devRef .tc main_arg3) = V (Proc.devRef .tc main_arg3) :=
  after_of_writes_sub hostOps0_6 V hostOps0_6_writes (by decide +kernel)
theorem keep_main_arg3_hostOps0_7 (V : Valuation τ sig (Elt F)) : after hostOps0_7 V (Proc.devRef .tc main_arg3) = V (Proc.devRef .tc main_arg3) :=
  after_of_writes_sub hostOps0_7 V hostOps0_7_writes (by decide +kernel)
theorem keep_main_arg3_hostOps0_8 (V : Valuation τ sig (Elt F)) : after hostOps0_8 V (Proc.devRef .tc main_arg3) = V (Proc.devRef .tc main_arg3) :=
  after_of_writes_sub hostOps0_8 V hostOps0_8_writes (by decide +kernel)
theorem keep_main_arg3_hostOps0_9 (V : Valuation τ sig (Elt F)) : after hostOps0_9 V (Proc.devRef .tc main_arg3) = V (Proc.devRef .tc main_arg3) :=
  after_of_writes_sub hostOps0_9 V hostOps0_9_writes (by decide +kernel)
theorem keep_main_arg3_hostOps0_10 (V : Valuation τ sig (Elt F)) : after hostOps0_10 V (Proc.devRef .tc main_arg3) = V (Proc.devRef .tc main_arg3) :=
  after_of_writes_sub hostOps0_10 V hostOps0_10_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0]
  | k + 1 => by
    rw [show atK m (k + 1) c = afterL bodyI (after condOps (atK m k c)) from rfl]
    simp only [afterL_cons, afterL_nil]
    rw [keep_main_arg3_while0Ops0_4, keep_main_arg3_while0Ops0_3, keep_main_arg3_while0Ops0_2, keep_main_arg3_while0Ops0_1, keep_main_arg3_while0Ops0, keep_main_arg3_condOps, atK_main_arg3 c k]

theorem keep_main_arg4_hostOps0 (V : Valuation τ sig (Elt F)) : after hostOps0 V (Proc.devRef .tc main_arg4) = V (Proc.devRef .tc main_arg4) :=
  after_of_writes_sub hostOps0 V hostOps0_writes (by decide +kernel)
theorem keep_main_arg4_condOps (V : Valuation τ sig (Elt F)) : after condOps V (Proc.devRef .tc main_arg4) = V (Proc.devRef .tc main_arg4) :=
  after_of_writes_sub condOps V condOps_writes (by decide +kernel)
theorem keep_main_arg4_while0Ops0 (V : Valuation τ sig (Elt F)) : after while0Ops0 V (Proc.devRef .tc main_arg4) = V (Proc.devRef .tc main_arg4) :=
  after_of_writes_sub while0Ops0 V while0Ops0_writes (by decide +kernel)
theorem keep_main_arg4_while0Ops0_1 (V : Valuation τ sig (Elt F)) : after while0Ops0_1 V (Proc.devRef .tc main_arg4) = V (Proc.devRef .tc main_arg4) :=
  after_of_writes_sub while0Ops0_1 V while0Ops0_1_writes (by decide +kernel)
theorem keep_main_arg4_while0Ops0_2 (V : Valuation τ sig (Elt F)) : after while0Ops0_2 V (Proc.devRef .tc main_arg4) = V (Proc.devRef .tc main_arg4) :=
  after_of_writes_sub while0Ops0_2 V while0Ops0_2_writes (by decide +kernel)
theorem keep_main_arg4_while0Ops0_3 (V : Valuation τ sig (Elt F)) : after while0Ops0_3 V (Proc.devRef .tc main_arg4) = V (Proc.devRef .tc main_arg4) :=
  after_of_writes_sub while0Ops0_3 V while0Ops0_3_writes (by decide +kernel)
theorem keep_main_arg4_while0Ops0_4 (V : Valuation τ sig (Elt F)) : after while0Ops0_4 V (Proc.devRef .tc main_arg4) = V (Proc.devRef .tc main_arg4) :=
  after_of_writes_sub while0Ops0_4 V while0Ops0_4_writes (by decide +kernel)
theorem keep_main_arg4_hostOps0_1 (V : Valuation τ sig (Elt F)) : after hostOps0_1 V (Proc.devRef .tc main_arg4) = V (Proc.devRef .tc main_arg4) :=
  after_of_writes_sub hostOps0_1 V hostOps0_1_writes (by decide +kernel)
theorem keep_main_arg4_hostOps0_2 (V : Valuation τ sig (Elt F)) : after hostOps0_2 V (Proc.devRef .tc main_arg4) = V (Proc.devRef .tc main_arg4) :=
  after_of_writes_sub hostOps0_2 V hostOps0_2_writes (by decide +kernel)
theorem keep_main_arg4_hostOps0_3 (V : Valuation τ sig (Elt F)) : after hostOps0_3 V (Proc.devRef .tc main_arg4) = V (Proc.devRef .tc main_arg4) :=
  after_of_writes_sub hostOps0_3 V hostOps0_3_writes (by decide +kernel)
theorem keep_main_arg4_hostOps0_4 (V : Valuation τ sig (Elt F)) : after hostOps0_4 V (Proc.devRef .tc main_arg4) = V (Proc.devRef .tc main_arg4) :=
  after_of_writes_sub hostOps0_4 V hostOps0_4_writes (by decide +kernel)
theorem keep_main_arg4_hostOps0_5 (V : Valuation τ sig (Elt F)) : after hostOps0_5 V (Proc.devRef .tc main_arg4) = V (Proc.devRef .tc main_arg4) :=
  after_of_writes_sub hostOps0_5 V hostOps0_5_writes (by decide +kernel)
theorem keep_main_arg4_hostOps0_6 (V : Valuation τ sig (Elt F)) : after hostOps0_6 V (Proc.devRef .tc main_arg4) = V (Proc.devRef .tc main_arg4) :=
  after_of_writes_sub hostOps0_6 V hostOps0_6_writes (by decide +kernel)
theorem keep_main_arg4_hostOps0_7 (V : Valuation τ sig (Elt F)) : after hostOps0_7 V (Proc.devRef .tc main_arg4) = V (Proc.devRef .tc main_arg4) :=
  after_of_writes_sub hostOps0_7 V hostOps0_7_writes (by decide +kernel)
theorem keep_main_arg4_hostOps0_8 (V : Valuation τ sig (Elt F)) : after hostOps0_8 V (Proc.devRef .tc main_arg4) = V (Proc.devRef .tc main_arg4) :=
  after_of_writes_sub hostOps0_8 V hostOps0_8_writes (by decide +kernel)
theorem keep_main_arg4_hostOps0_9 (V : Valuation τ sig (Elt F)) : after hostOps0_9 V (Proc.devRef .tc main_arg4) = V (Proc.devRef .tc main_arg4) :=
  after_of_writes_sub hostOps0_9 V hostOps0_9_writes (by decide +kernel)
theorem keep_main_arg4_hostOps0_10 (V : Valuation τ sig (Elt F)) : after hostOps0_10 V (Proc.devRef .tc main_arg4) = V (Proc.devRef .tc main_arg4) :=
  after_of_writes_sub hostOps0_10 V hostOps0_10_writes (by decide +kernel)
/-- The argument `main_arg4` is written by nothing: it holds its launch contents before every condition. -/
theorem atK_main_arg4 (c : Dev nD) : ∀ k, atK m k c (Proc.devRef .tc main_arg4) = m ((c.tc : Thread nD τ).loc main_arg4)
  | 0 => by
    rw [show atK m 0 c = entryContents preI m c from rfl]
    simp only [entryContents, afterL_cons, afterL_nil]
    rw [keep_main_arg4_hostOps0]
  | k + 1 => by
    rw [show atK m (k + 1) c = afterL bodyI (after condOps (atK m k c)) from rfl]
    simp only [afterL_cons, afterL_nil]
    rw [keep_main_arg4_while0Ops0_4, keep_main_arg4_while0Ops0_3, keep_main_arg4_while0Ops0_2, keep_main_arg4_while0Ops0_1, keep_main_arg4_while0Ops0, keep_main_arg4_condOps, atK_main_arg4 c k]

theorem keep_main_arg5_hostOps0 (V : Valuation τ sig (Elt F)) : after hostOps0 V (Proc.devRef .tc main_arg5) = V (Proc.devRef .tc main_arg5) :=
  after_of_writes_sub hostOps0 V hostOps0_writes (by decide +kernel)
theorem keep_main_arg5_condOps (V : Valuation τ sig (Elt F)) : after condOps V (Proc.devRef .tc main_arg5) = V (Proc.devRef .tc main_arg5) :=
  after_of_writes_sub condOps V condOps_writes (by decide +kernel)
theorem keep_main_arg5_while0Ops0 (V : Valuation τ sig (Elt F)) : after while0Ops0 V (Proc.devRef .tc main_arg5) = V (Proc.devRef .tc main_arg5) :=
  after_of_writes_sub while0Ops0 V while0Ops0_writes (by decide +kernel)
theorem keep_main_arg5_while0Ops0_1 (V : Valuation τ sig (Elt F)) : after while0Ops0_1 V (Proc.devRef .tc main_arg5) = V (Proc.devRef .tc main_arg5) :=
  after_of_writes_sub while0Ops0_1 V while0Ops0_1_writes (by decide +kernel)
theorem keep_main_arg5_while0Ops0_2 (V : Valuation τ sig (Elt F)) : after while0Ops0_2 V (Proc.devRef .tc main_arg5) = V (Proc.devRef .tc main_arg5) :=
  after_of_writes_sub while0Ops0_2 V while0Ops0_2_writes (by decide +kernel)
theorem keep_main_arg5_while0Ops0_3 (V : Valuation τ sig (Elt F)) : after while0Ops0_3 V (Proc.devRef .tc main_arg5) = V (Proc.devRef .tc main_arg5) :=
  after_of_writes_sub while0Ops0_3 V while0Ops0_3_writes (by decide +kernel)
theorem keep_main_arg5_while0Ops0_4 (V : Valuation τ sig (Elt F)) : after while0Ops0_4 V (Proc.devRef .tc main_arg5) = V (Proc.devRef .tc main_arg5) :=
  after_of_writes_sub while0Ops0_4 V while0Ops0_4_writes (by decide +kernel)
theorem keep_main_arg5_hostOps0_1 (V : Valuation τ sig (Elt F)) : after hostOps0_1 V (Proc.devRef .tc main_arg5) = V (Proc.devRef .tc main_arg5) :=
  after_of_writes_sub hostOps0_1 V hostOps0_1_writes (by decide +kernel)
theorem keep_main_arg5_hostOps0_2 (V : Valuation τ sig (Elt F)) : after hostOps0_2 V (Proc.devRef .tc main_arg5) = V (Proc.devRef .tc main_arg5) :=
  after_of_writes_sub hostOps0_2 V hostOps0_2_writes (by decide +kernel)
theorem keep_main_arg5_hostOps0_3 (V : Valuation τ sig (Elt F)) : after hostOps0_3 V (Proc.devRef .tc main_arg5) = V (Proc.devRef .tc main_arg5) :=
  after_of_writes_sub hostOps0_3 V hostOps0_3_writes (by decide +kernel)
theorem keep_main_arg5_hostOps0_4 (V : Valuation τ sig (Elt F)) : after hostOps0_4 V (Proc.devRef .tc main_arg5) = V (Proc.devRef .tc main_arg5) :=
  after_of_writes_sub hostOps0_4 V hostOps0_4_writes (by decide +kernel)
theorem keep_main_arg5_hostOps0_5 (V : Valuation τ sig (Elt F)) : after hostOps0_5 V (Proc.devRef .tc main_arg5) = V (Proc.devRef .tc main_arg5) :=
  after_of_writes_sub hostOps0_5 V hostOps0_5_writes (by decide +kernel)
theorem keep_main_arg5_hostOps0_6 (V : Valuation τ sig (Elt F)) : after hostOps0_6 V (Proc.devRef .tc main_arg5) = V (Proc.devRef .tc main_arg5) :=
  after_of_writes_sub hostOps0_6 V hostOps0_6_writes (by decide +kernel)
theorem keep_main_arg5_hostOps0_7 (V : Valuation τ sig (Elt F)) : after hostOps0_7 V (Proc.devRef .tc main_arg5) = V (Proc.devRef .tc main_arg5) :=
  after_of_writes_sub hostOps0_7 V hostOps0_7_writes (by decide +kernel)
theorem keep_main_arg5_hostOps0_8 (V : Valuation τ sig (Elt F)) : after hostOps0_8 V (Proc.devRef .tc main_arg5) = V (Proc.devRef .tc main_arg5) :=
  after_of_writes_sub hostOps0_8 V hostOps0_8_writes (by decide +kernel)
theorem keep_main_arg5_hostOps0_9 (V : Valuation τ sig (Elt F)) : after hostOps0_9 V (Proc.devRef .tc main_arg5) = V (Proc.devRef .tc main_arg5) :=
  after_of_writes_sub hostOps0_9 V hostOps0_9_writes (by decide +kernel)
theorem keep_main_arg5_hostOps0_10 (V : Valuation τ sig (Elt F)) : after hostOps0_10 V (Proc.devRef .tc main_arg5) = V (Proc.devRef .tc main_arg5) :=
  after_of_writes_sub hostOps0_10 V hostOps0_10_writes (by decide +kernel)
/-- The argument `main_arg5` is written by nothing: it holds its launch contents before every condition. -/
theorem atK_main_arg5 (c : Dev nD) : ∀ k, atK m k c (Proc.devRef .tc main_arg5) = m ((c.tc : Thread nD τ).loc main_arg5)
  | 0 => by
    rw [show atK m 0 c = entryContents preI m c from rfl]
    simp only [entryContents, afterL_cons, afterL_nil]
    rw [keep_main_arg5_hostOps0]
  | k + 1 => by
    rw [show atK m (k + 1) c = afterL bodyI (after condOps (atK m k c)) from rfl]
    simp only [afterL_cons, afterL_nil]
    rw [keep_main_arg5_while0Ops0_4, keep_main_arg5_while0Ops0_3, keep_main_arg5_while0Ops0_2, keep_main_arg5_while0Ops0_1, keep_main_arg5_while0Ops0, keep_main_arg5_condOps, atK_main_arg5 c k]

theorem keep_main_arg6_hostOps0 (V : Valuation τ sig (Elt F)) : after hostOps0 V (Proc.devRef .tc main_arg6) = V (Proc.devRef .tc main_arg6) :=
  after_of_writes_sub hostOps0 V hostOps0_writes (by decide +kernel)
theorem keep_main_arg6_condOps (V : Valuation τ sig (Elt F)) : after condOps V (Proc.devRef .tc main_arg6) = V (Proc.devRef .tc main_arg6) :=
  after_of_writes_sub condOps V condOps_writes (by decide +kernel)
theorem keep_main_arg6_while0Ops0 (V : Valuation τ sig (Elt F)) : after while0Ops0 V (Proc.devRef .tc main_arg6) = V (Proc.devRef .tc main_arg6) :=
  after_of_writes_sub while0Ops0 V while0Ops0_writes (by decide +kernel)
theorem keep_main_arg6_while0Ops0_1 (V : Valuation τ sig (Elt F)) : after while0Ops0_1 V (Proc.devRef .tc main_arg6) = V (Proc.devRef .tc main_arg6) :=
  after_of_writes_sub while0Ops0_1 V while0Ops0_1_writes (by decide +kernel)
theorem keep_main_arg6_while0Ops0_2 (V : Valuation τ sig (Elt F)) : after while0Ops0_2 V (Proc.devRef .tc main_arg6) = V (Proc.devRef .tc main_arg6) :=
  after_of_writes_sub while0Ops0_2 V while0Ops0_2_writes (by decide +kernel)
theorem keep_main_arg6_while0Ops0_3 (V : Valuation τ sig (Elt F)) : after while0Ops0_3 V (Proc.devRef .tc main_arg6) = V (Proc.devRef .tc main_arg6) :=
  after_of_writes_sub while0Ops0_3 V while0Ops0_3_writes (by decide +kernel)
theorem keep_main_arg6_while0Ops0_4 (V : Valuation τ sig (Elt F)) : after while0Ops0_4 V (Proc.devRef .tc main_arg6) = V (Proc.devRef .tc main_arg6) :=
  after_of_writes_sub while0Ops0_4 V while0Ops0_4_writes (by decide +kernel)
theorem keep_main_arg6_hostOps0_1 (V : Valuation τ sig (Elt F)) : after hostOps0_1 V (Proc.devRef .tc main_arg6) = V (Proc.devRef .tc main_arg6) :=
  after_of_writes_sub hostOps0_1 V hostOps0_1_writes (by decide +kernel)
theorem keep_main_arg6_hostOps0_2 (V : Valuation τ sig (Elt F)) : after hostOps0_2 V (Proc.devRef .tc main_arg6) = V (Proc.devRef .tc main_arg6) :=
  after_of_writes_sub hostOps0_2 V hostOps0_2_writes (by decide +kernel)
theorem keep_main_arg6_hostOps0_3 (V : Valuation τ sig (Elt F)) : after hostOps0_3 V (Proc.devRef .tc main_arg6) = V (Proc.devRef .tc main_arg6) :=
  after_of_writes_sub hostOps0_3 V hostOps0_3_writes (by decide +kernel)
theorem keep_main_arg6_hostOps0_4 (V : Valuation τ sig (Elt F)) : after hostOps0_4 V (Proc.devRef .tc main_arg6) = V (Proc.devRef .tc main_arg6) :=
  after_of_writes_sub hostOps0_4 V hostOps0_4_writes (by decide +kernel)
theorem keep_main_arg6_hostOps0_5 (V : Valuation τ sig (Elt F)) : after hostOps0_5 V (Proc.devRef .tc main_arg6) = V (Proc.devRef .tc main_arg6) :=
  after_of_writes_sub hostOps0_5 V hostOps0_5_writes (by decide +kernel)
theorem keep_main_arg6_hostOps0_6 (V : Valuation τ sig (Elt F)) : after hostOps0_6 V (Proc.devRef .tc main_arg6) = V (Proc.devRef .tc main_arg6) :=
  after_of_writes_sub hostOps0_6 V hostOps0_6_writes (by decide +kernel)
theorem keep_main_arg6_hostOps0_7 (V : Valuation τ sig (Elt F)) : after hostOps0_7 V (Proc.devRef .tc main_arg6) = V (Proc.devRef .tc main_arg6) :=
  after_of_writes_sub hostOps0_7 V hostOps0_7_writes (by decide +kernel)
theorem keep_main_arg6_hostOps0_8 (V : Valuation τ sig (Elt F)) : after hostOps0_8 V (Proc.devRef .tc main_arg6) = V (Proc.devRef .tc main_arg6) :=
  after_of_writes_sub hostOps0_8 V hostOps0_8_writes (by decide +kernel)
theorem keep_main_arg6_hostOps0_9 (V : Valuation τ sig (Elt F)) : after hostOps0_9 V (Proc.devRef .tc main_arg6) = V (Proc.devRef .tc main_arg6) :=
  after_of_writes_sub hostOps0_9 V hostOps0_9_writes (by decide +kernel)
theorem keep_main_arg6_hostOps0_10 (V : Valuation τ sig (Elt F)) : after hostOps0_10 V (Proc.devRef .tc main_arg6) = V (Proc.devRef .tc main_arg6) :=
  after_of_writes_sub hostOps0_10 V hostOps0_10_writes (by decide +kernel)
/-- The argument `main_arg6` is written by nothing: it holds its launch contents before every condition. -/
theorem atK_main_arg6 (c : Dev nD) : ∀ k, atK m k c (Proc.devRef .tc main_arg6) = m ((c.tc : Thread nD τ).loc main_arg6)
  | 0 => by
    rw [show atK m 0 c = entryContents preI m c from rfl]
    simp only [entryContents, afterL_cons, afterL_nil]
    rw [keep_main_arg6_hostOps0]
  | k + 1 => by
    rw [show atK m (k + 1) c = afterL bodyI (after condOps (atK m k c)) from rfl]
    simp only [afterL_cons, afterL_nil]
    rw [keep_main_arg6_while0Ops0_4, keep_main_arg6_while0Ops0_3, keep_main_arg6_while0Ops0_2, keep_main_arg6_while0Ops0_1, keep_main_arg6_while0Ops0, keep_main_arg6_condOps, atK_main_arg6 c k]

theorem keep_main_arg7_hostOps0 (V : Valuation τ sig (Elt F)) : after hostOps0 V (Proc.devRef .tc main_arg7) = V (Proc.devRef .tc main_arg7) :=
  after_of_writes_sub hostOps0 V hostOps0_writes (by decide +kernel)
theorem keep_main_arg7_condOps (V : Valuation τ sig (Elt F)) : after condOps V (Proc.devRef .tc main_arg7) = V (Proc.devRef .tc main_arg7) :=
  after_of_writes_sub condOps V condOps_writes (by decide +kernel)
theorem keep_main_arg7_while0Ops0 (V : Valuation τ sig (Elt F)) : after while0Ops0 V (Proc.devRef .tc main_arg7) = V (Proc.devRef .tc main_arg7) :=
  after_of_writes_sub while0Ops0 V while0Ops0_writes (by decide +kernel)
theorem keep_main_arg7_while0Ops0_1 (V : Valuation τ sig (Elt F)) : after while0Ops0_1 V (Proc.devRef .tc main_arg7) = V (Proc.devRef .tc main_arg7) :=
  after_of_writes_sub while0Ops0_1 V while0Ops0_1_writes (by decide +kernel)
theorem keep_main_arg7_while0Ops0_2 (V : Valuation τ sig (Elt F)) : after while0Ops0_2 V (Proc.devRef .tc main_arg7) = V (Proc.devRef .tc main_arg7) :=
  after_of_writes_sub while0Ops0_2 V while0Ops0_2_writes (by decide +kernel)
theorem keep_main_arg7_while0Ops0_3 (V : Valuation τ sig (Elt F)) : after while0Ops0_3 V (Proc.devRef .tc main_arg7) = V (Proc.devRef .tc main_arg7) :=
  after_of_writes_sub while0Ops0_3 V while0Ops0_3_writes (by decide +kernel)
theorem keep_main_arg7_while0Ops0_4 (V : Valuation τ sig (Elt F)) : after while0Ops0_4 V (Proc.devRef .tc main_arg7) = V (Proc.devRef .tc main_arg7) :=
  after_of_writes_sub while0Ops0_4 V while0Ops0_4_writes (by decide +kernel)
theorem keep_main_arg7_hostOps0_1 (V : Valuation τ sig (Elt F)) : after hostOps0_1 V (Proc.devRef .tc main_arg7) = V (Proc.devRef .tc main_arg7) :=
  after_of_writes_sub hostOps0_1 V hostOps0_1_writes (by decide +kernel)
theorem keep_main_arg7_hostOps0_2 (V : Valuation τ sig (Elt F)) : after hostOps0_2 V (Proc.devRef .tc main_arg7) = V (Proc.devRef .tc main_arg7) :=
  after_of_writes_sub hostOps0_2 V hostOps0_2_writes (by decide +kernel)
theorem keep_main_arg7_hostOps0_3 (V : Valuation τ sig (Elt F)) : after hostOps0_3 V (Proc.devRef .tc main_arg7) = V (Proc.devRef .tc main_arg7) :=
  after_of_writes_sub hostOps0_3 V hostOps0_3_writes (by decide +kernel)
theorem keep_main_arg7_hostOps0_4 (V : Valuation τ sig (Elt F)) : after hostOps0_4 V (Proc.devRef .tc main_arg7) = V (Proc.devRef .tc main_arg7) :=
  after_of_writes_sub hostOps0_4 V hostOps0_4_writes (by decide +kernel)
theorem keep_main_arg7_hostOps0_5 (V : Valuation τ sig (Elt F)) : after hostOps0_5 V (Proc.devRef .tc main_arg7) = V (Proc.devRef .tc main_arg7) :=
  after_of_writes_sub hostOps0_5 V hostOps0_5_writes (by decide +kernel)
theorem keep_main_arg7_hostOps0_6 (V : Valuation τ sig (Elt F)) : after hostOps0_6 V (Proc.devRef .tc main_arg7) = V (Proc.devRef .tc main_arg7) :=
  after_of_writes_sub hostOps0_6 V hostOps0_6_writes (by decide +kernel)
theorem keep_main_arg7_hostOps0_7 (V : Valuation τ sig (Elt F)) : after hostOps0_7 V (Proc.devRef .tc main_arg7) = V (Proc.devRef .tc main_arg7) :=
  after_of_writes_sub hostOps0_7 V hostOps0_7_writes (by decide +kernel)
theorem keep_main_arg7_hostOps0_8 (V : Valuation τ sig (Elt F)) : after hostOps0_8 V (Proc.devRef .tc main_arg7) = V (Proc.devRef .tc main_arg7) :=
  after_of_writes_sub hostOps0_8 V hostOps0_8_writes (by decide +kernel)
theorem keep_main_arg7_hostOps0_9 (V : Valuation τ sig (Elt F)) : after hostOps0_9 V (Proc.devRef .tc main_arg7) = V (Proc.devRef .tc main_arg7) :=
  after_of_writes_sub hostOps0_9 V hostOps0_9_writes (by decide +kernel)
theorem keep_main_arg7_hostOps0_10 (V : Valuation τ sig (Elt F)) : after hostOps0_10 V (Proc.devRef .tc main_arg7) = V (Proc.devRef .tc main_arg7) :=
  after_of_writes_sub hostOps0_10 V hostOps0_10_writes (by decide +kernel)
/-- The argument `main_arg7` is written by nothing: it holds its launch contents before every condition. -/
theorem atK_main_arg7 (c : Dev nD) : ∀ k, atK m k c (Proc.devRef .tc main_arg7) = m ((c.tc : Thread nD τ).loc main_arg7)
  | 0 => by
    rw [show atK m 0 c = entryContents preI m c from rfl]
    simp only [entryContents, afterL_cons, afterL_nil]
    rw [keep_main_arg7_hostOps0]
  | k + 1 => by
    rw [show atK m (k + 1) c = afterL bodyI (after condOps (atK m k c)) from rfl]
    simp only [afterL_cons, afterL_nil]
    rw [keep_main_arg7_while0Ops0_4, keep_main_arg7_while0Ops0_3, keep_main_arg7_while0Ops0_2, keep_main_arg7_while0Ops0_1, keep_main_arg7_while0Ops0, keep_main_arg7_condOps, atK_main_arg7 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_10, keep_main_arg0_hostOps0_9, keep_main_arg0_hostOps0_8, keep_main_arg0_hostOps0_7, keep_main_arg0_hostOps0_6, keep_main_arg0_hostOps0_5, keep_main_arg0_hostOps0_4, keep_main_arg0_hostOps0_3, keep_main_arg0_hostOps0_2, keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_10, keep_main_arg1_hostOps0_9, keep_main_arg1_hostOps0_8, keep_main_arg1_hostOps0_7, keep_main_arg1_hostOps0_6, keep_main_arg1_hostOps0_5, keep_main_arg1_hostOps0_4, keep_main_arg1_hostOps0_3, keep_main_arg1_hostOps0_2, keep_main_arg1_hostOps0_1]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_10, keep_main_arg2_hostOps0_9, keep_main_arg2_hostOps0_8, keep_main_arg2_hostOps0_7, keep_main_arg2_hostOps0_6, keep_main_arg2_hostOps0_5, keep_main_arg2_hostOps0_4, keep_main_arg2_hostOps0_3, keep_main_arg2_hostOps0_2, keep_main_arg2_hostOps0_1]
/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_10, keep_main_arg3_hostOps0_9, keep_main_arg3_hostOps0_8, keep_main_arg3_hostOps0_7, keep_main_arg3_hostOps0_6, keep_main_arg3_hostOps0_5, keep_main_arg3_hostOps0_4, keep_main_arg3_hostOps0_3, keep_main_arg3_hostOps0_2, keep_main_arg3_hostOps0_1]
/-- The operations after the loop do not write `main_arg4`. -/
theorem post_keeps_main_arg4 (V0 : Valuation τ sig (Elt F)) : afterL postI V0 (Proc.devRef .tc main_arg4) = V0 (Proc.devRef .tc main_arg4) := by
  simp only [postI, afterL_cons, afterL_nil]
  rw [keep_main_arg4_hostOps0_10, keep_main_arg4_hostOps0_9, keep_main_arg4_hostOps0_8, keep_main_arg4_hostOps0_7, keep_main_arg4_hostOps0_6, keep_main_arg4_hostOps0_5, keep_main_arg4_hostOps0_4, keep_main_arg4_hostOps0_3, keep_main_arg4_hostOps0_2, keep_main_arg4_hostOps0_1]
/-- The operations after the loop do not write `main_arg5`. -/
theorem post_keeps_main_arg5 (V0 : Valuation τ sig (Elt F)) : afterL postI V0 (Proc.devRef .tc main_arg5) = V0 (Proc.devRef .tc main_arg5) := by
  simp only [postI, afterL_cons, afterL_nil]
  rw [keep_main_arg5_hostOps0_10, keep_main_arg5_hostOps0_9, keep_main_arg5_hostOps0_8, keep_main_arg5_hostOps0_7, keep_main_arg5_hostOps0_6, keep_main_arg5_hostOps0_5, keep_main_arg5_hostOps0_4, keep_main_arg5_hostOps0_3, keep_main_arg5_hostOps0_2, keep_main_arg5_hostOps0_1]
/-- The operations after the loop do not write `main_arg6`. -/
theorem post_keeps_main_arg6 (V0 : Valuation τ sig (Elt F)) : afterL postI V0 (Proc.devRef .tc main_arg6) = V0 (Proc.devRef .tc main_arg6) := by
  simp only [postI, afterL_cons, afterL_nil]
  rw [keep_main_arg6_hostOps0_10, keep_main_arg6_hostOps0_9, keep_main_arg6_hostOps0_8, keep_main_arg6_hostOps0_7, keep_main_arg6_hostOps0_6, keep_main_arg6_hostOps0_5, keep_main_arg6_hostOps0_4, keep_main_arg6_hostOps0_3, keep_main_arg6_hostOps0_2, keep_main_arg6_hostOps0_1]
/-- The operations after the loop do not write `main_arg7`. -/
theorem post_keeps_main_arg7 (V0 : Valuation τ sig (Elt F)) : afterL postI V0 (Proc.devRef .tc main_arg7) = V0 (Proc.devRef .tc main_arg7) := by
  simp only [postI, afterL_cons, afterL_nil]
  rw [keep_main_arg7_hostOps0_10, keep_main_arg7_hostOps0_9, keep_main_arg7_hostOps0_8, keep_main_arg7_hostOps0_7, keep_main_arg7_hostOps0_6, keep_main_arg7_hostOps0_5, keep_main_arg7_hostOps0_4, keep_main_arg7_hostOps0_3, keep_main_arg7_hostOps0_2, keep_main_arg7_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg2 c k
/-- `STEP` iterated on the loop's entry leaves the argument `main_arg3` as the launch has it. -/
theorem iter_main_arg3 (c : Dev nD) : ∀ k, (STEP^[k] (entryContents preI m c)) (Proc.devRef .tc main_arg3) = m ((c.tc : Thread nD τ).loc main_arg3)
  | 0 => by rw [Function.iterate_zero, id_eq, ← atTrip_zero condOps bodyI (entryContents preI m)]; exact atK_main_arg3 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg3 c k
/-- `STEP` iterated on the loop's entry leaves the argument `main_arg4` as the launch has it. -/
theorem iter_main_arg4 (c : Dev nD) : ∀ k, (STEP^[k] (entryContents preI m c)) (Proc.devRef .tc main_arg4) = m ((c.tc : Thread nD τ).loc main_arg4)
  | 0 => by rw [Function.iterate_zero, id_eq, ← atTrip_zero condOps bodyI (entryContents preI m)]; exact atK_main_arg4 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg4 c k
/-- `STEP` iterated on the loop's entry leaves the argument `main_arg5` as the launch has it. -/
theorem iter_main_arg5 (c : Dev nD) : ∀ k, (STEP^[k] (entryContents preI m c)) (Proc.devRef .tc main_arg5) = m ((c.tc : Thread nD τ).loc main_arg5)
  | 0 => by rw [Function.iterate_zero, id_eq, ← atTrip_zero condOps bodyI (entryContents preI m)]; exact atK_main_arg5 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg5 c k
/-- `STEP` iterated on the loop's entry leaves the argument `main_arg6` as the launch has it. -/
theorem iter_main_arg6 (c : Dev nD) : ∀ k, (STEP^[k] (entryContents preI m c)) (Proc.devRef .tc main_arg6) = m ((c.tc : Thread nD τ).loc main_arg6)
  | 0 => by rw [Function.iterate_zero, id_eq, ← atTrip_zero condOps bodyI (entryContents preI m)]; exact atK_main_arg6 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg6 c k
/-- `STEP` iterated on the loop's entry leaves the argument `main_arg7` as the launch has it. -/
theorem iter_main_arg7 (c : Dev nD) : ∀ k, (STEP^[k] (entryContents preI m c)) (Proc.devRef .tc main_arg7) = m ((c.tc : Thread nD τ).loc main_arg7)
  | 0 => by rw [Function.iterate_zero, id_eq, ← atTrip_zero condOps bodyI (entryContents preI m)]; exact atK_main_arg7 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg7 c k

end Cert.ReferenceIdeal.Value

end
-- ==== Proof.Ref.Step.lean ====
/- One trip of the reference's loop as standalone definitions: the state a trip hands the next, every value of one trip
   (`b‹k› j s`, of the trip's number `j` and the state `s`), `init`, `step`, and the two results of the last state. -/
module

public import proofs.«01_k».proof.ReferenceIdeal
public import proofs.«01_k».proof.Proof.Gen.ReferenceIdeal

@[expose] public section

set_option maxRecDepth 16384

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v5_3 : (⟨S16x512, .i32⟩ : BufTy).Contents (Elt F)
  main_v5_4 : (⟨S16x2048, .f32⟩ : BufTy).Contents (Elt F)
  main_v5_5 : (⟨S16, .i32⟩ : BufTy).Contents (Elt F)
  main_v5_0 : (⟨S16x2048x3, .f32⟩ : BufTy).Contents (Elt F)

/-! What @main computes before the loop without reading an argument. -/

def K_main_c : (⟨S_, .i32⟩ : BufTy).Contents (Elt F) := constantI S_ 32 0#32
def K_main_v0 : (⟨S16x512, .i32⟩ : BufTy).Contents (Elt F) := broadcastInDim S16x512 ![] bcast_S_S16x512 ((K_main_c (F := F)))
def K_main_cst : (⟨S_, .f32⟩ : BufTy).Contents (Elt F) := constant S_ .f32 0x3F800000#32
def K_main_v1 : (⟨S16x2048, .f32⟩ : BufTy).Contents (Elt F) := broadcastInDim S16x2048 ![] bcast_S_S16x2048 ((K_main_cst (F := F)))
def K_main_cst_0 : (⟨S_, .f32⟩ : BufTy).Contents (Elt F) := constant S_ .f32 0x501502F9#32
def K_main_v2 : (⟨S16x2048, .f32⟩ : BufTy).Contents (Elt F) := broadcastInDim S16x2048 ![] bcast_S_S16x2048 ((K_main_cst_0 (F := F)))
def K_main_v3 : (⟨S16x2048, .f32⟩ : BufTy).Contents (Elt F) := mulf ((K_main_v1 (F := F))) ((K_main_v2 (F := F)))
def K_main_c_1 : (⟨S_, .i32⟩ : BufTy).Contents (Elt F) := constantI S_ 32 0#32
def K_main_v4 : (⟨S16, .i32⟩ : BufTy).Contents (Elt F) := broadcastInDim S16 ![] bcast_S_S16 ((K_main_c_1 (F := F)))
def K_main_c_2 : (⟨S_, .i32⟩ : BufTy).Contents (Elt F) := constantI S_ 32 0#32
def K_main_c_3 : (⟨S_, .i32⟩ : BufTy).Contents (Elt F) := constantI S_ 32 0#32

/-! One trip's values, in the body's order. -/

def b0 (j : ℕ) (s : State F) : (⟨S_, .i32⟩ : BufTy).Contents (Elt F) :=
  constantI S_ 32 1#32
def b1 (j : ℕ) (s : State F) : (⟨S_, .i32⟩ : BufTy).Contents (Elt F) :=
  addi ((constantI S_ 32 (BitVec.ofNat 32 j) : (⟨S_, .i32⟩ : BufTy).Contents (Elt F))) ((b0 j s))
def b2 (j : ℕ) (s : State F) : (⟨S_, .i32⟩ : BufTy).Contents (Elt F) :=
  constantI S_ 32 0#32
def b3 (j : ℕ) (s : State F) : (⟨S_, .i1⟩ : BufTy).Contents (Elt F) :=
  cmpi .slt ((constantI S_ 32 (BitVec.ofNat 32 j) : (⟨S_, .i32⟩ : BufTy).Contents (Elt F))) ((b2 j s))
def b4 (j : ℕ) (s : State F) : (⟨S_, .i32⟩ : BufTy).Contents (Elt F) :=
  constantI S_ 32 512#32
def b5 (j : ℕ) (s : State F) : (⟨S_, .i32⟩ : BufTy).Contents (Elt F) :=
  addi ((constantI S_ 32 (BitVec.ofNat 32 j) : (⟨S_, .i32⟩ : BufTy).Contents (Elt F))) ((b4 j s))
def b6 (j : ℕ) (s : State F) : (⟨S_, .i32⟩ : BufTy).Contents (Elt F) :=
  select ((b3 j s)) ((b5 j s)) ((constantI S_ 32 (BitVec.ofNat 32 j) : (⟨S_, .i32⟩ : BufTy).Contents (Elt F)))
def b7 (j : ℕ) (s : State F) : (⟨S_, .i32⟩ : BufTy).Contents (Elt F) := b6 j s
theorem b7_id (j : ℕ) (s : State F) : b7 j s = b6 j s := rfl
def b8 (j : ℕ) (s : State F) : (⟨S1, .i32⟩ : BufTy).Contents (Elt F) :=
  broadcastInDim S1 ![] bcast_S_S1 ((b7 j s))
def b9 (j : ℕ) (s : State F) : (⟨S16x512, .i32⟩ : BufTy).Contents (Elt F) :=
  Host.scatter scatter_S16x512_S1_S16_0_1_1_0 (fun _ b => b) (s.main_v5_3) ((b8 j s)) (s.main_v5_5)
def b10 (j : ℕ) (s : State F) : (⟨S16x1x1, .i32⟩ : BufTy).Contents (Elt F) :=
  broadcastInDim S16x1x1 ![0] bcast_S16_S16x1x1_0 (s.main_v5_5)
def b11 (j : ℕ) (s : State F) : (⟨S_, .i32⟩ : BufTy).Contents (Elt F) :=
  constantI S_ 32 0#32
def b12 (j : ℕ) (s : State F) : (⟨S16x1x1, .i32⟩ : BufTy).Contents (Elt F) :=
  broadcastInDim S16x1x1 ![] bcast_S_S16x1x1 ((b11 j s))
def b13 (j : ℕ) (s : State F) : (⟨S16x1x1, .i1⟩ : BufTy).Contents (Elt F) :=
  cmpi .slt ((b10 j s)) ((b12 j s))
def b14 (j : ℕ) (s : State F) : (⟨S_, .i32⟩ : BufTy).Contents (Elt F) :=
  constantI S_ 32 2048#32
def b15 (j : ℕ) (s : State F) : (⟨S16x1x1, .i32⟩ : BufTy).Contents (Elt F) :=
  broadcastInDim S16x1x1 ![] bcast_S_S16x1x1 ((b14 j s))
def b16 (j : ℕ) (s : State F) : (⟨S16x1x1, .i32⟩ : BufTy).Contents (Elt F) :=
  addi ((b10 j s)) ((b15 j s))
def b17 (j : ℕ) (s : State F) : (⟨S16x1x1, .i32⟩ : BufTy).Contents (Elt F) :=
  select ((b13 j s)) ((b16 j s)) ((b10 j s))
def b18 (j : ℕ) (s : State F) : (⟨S16x1x3, .f32⟩ : BufTy).Contents (Elt F) :=
  Host.gather gather_S16x2048x3_S16x1x1_S16x1x3_2_1_0_0_1_2_113 (s.main_v5_0) ((b17 j s))
def b19 (j : ℕ) (s : State F) : (⟨S16x2048x3, .f32⟩ : BufTy).Contents (Elt F) :=
  broadcastInDim S16x2048x3 ![0, 1, 2] bcast_S16x1x3_S16x2048x3_0_1_2 ((b18 j s))
def b20 (j : ℕ) (s : State F) : (⟨S16x2048x3, .f32⟩ : BufTy).Contents (Elt F) :=
  subf (s.main_v5_0) ((b19 j s))
def b21 (j : ℕ) (s : State F) : (⟨S16x2048x3, .f32⟩ : BufTy).Contents (Elt F) :=
  mulf ((b20 j s)) ((b20 j s))
def b22 (j : ℕ) (s : State F) : (⟨S_, .f32⟩ : BufTy).Contents (Elt F) :=
  constant S_ .f32 0x00000000#32
def b23 (j : ℕ) (s : State F) : (⟨S16x2048, .f32⟩ : BufTy).Contents (Elt F) :=
  Host.reduceAdd ((b21 j s)) ((b22 j s)) reducesTo_S16x2048x3_S16x2048_d2 h_S_
def b24 (j : ℕ) (s : State F) : (⟨S16x2048, .f32⟩ : BufTy).Contents (Elt F) :=
  minimumf (s.main_v5_4) ((b23 j s))
def b25 (j : ℕ) (s : State F) : (⟨S16x2048, .i32⟩ : BufTy).Contents (Elt F) :=
  iotaInDim S16x2048 32 1
def b26 (j : ℕ) (s : State F) : (⟨S_, .f32⟩ : BufTy).Contents (Elt F) :=
  constant S_ .f32 0xFF800000#32
def b27 (j : ℕ) (s : State F) : (⟨S_, .i32⟩ : BufTy).Contents (Elt F) :=
  constantI S_ 32 0#32
def b28 (j : ℕ) (s : State F) : (⟨S16, .f32⟩ : BufTy).Contents (Elt F) :=
  (fun i => (Host.argReduce reducer_argmax_f32_i32 ((b24 j s)) ((b25 j s)) ((b26 j s)) ((b27 j s)) reducesTo_S16x2048_S16_d1 h_S_ i).1)
def b29 (j : ℕ) (s : State F) : (⟨S16, .i32⟩ : BufTy).Contents (Elt F) :=
  (fun i => (Host.argReduce reducer_argmax_f32_i32 ((b24 j s)) ((b25 j s)) ((b26 j s)) ((b27 j s)) reducesTo_S16x2048_S16_d1 h_S_ i).2)

/-- The state @main hands the first trip, of the arguments it copies in. -/
def init (main_arg0 : (⟨S16x2048x3, .f32⟩ : BufTy).Contents (Elt F)) : State F :=
  { main_v5_3 := K_main_v0 (F := F), main_v5_4 := K_main_v3 (F := F), main_v5_5 := K_main_v4 (F := F), main_v5_0 := main_arg0 }

/-- One trip. -/
def step (j : ℕ) (s : State F) : State F :=
  { main_v5_3 := b9 j s, main_v5_4 := b24 j s, main_v5_5 := b29 j s, main_v5_0 := s.main_v5_0 }
theorem step_main_v5_3 (j : ℕ) (s : State F) : (step j s).main_v5_3 = b9 j s := by dsimp only [step]
theorem step_main_v5_4 (j : ℕ) (s : State F) : (step j s).main_v5_4 = b24 j s := by dsimp only [step]
theorem step_main_v5_5 (j : ℕ) (s : State F) : (step j s).main_v5_5 = b29 j s := by dsimp only [step]

/-- `main_v7`, which the operations after the loop make, of the loop's last state and the arguments they read. -/
def R_main_v7 (s : State F) (main_arg0 : (⟨S16x2048x3, .f32⟩ : BufTy).Contents (Elt F)) : (⟨S16x512x3, .f32⟩ : BufTy).Contents (Elt F) :=
  Host.gather gather_S16x2048x3_S16x512x1_S16x512x3_2_1_0_0_1_2_113 (main_arg0) (select (cmpi .slt (broadcastInDim S16x512x1 ![0, 1] bcast_S16x512_S16x512x1_0_1 (s.main_v5_3)) (broadcastInDim S16x512x1 ![] bcast_S_S16x512x1 (constantI S_ 32 0#32))) (addi (broadcastInDim S16x512x1 ![0, 1] bcast_S16x512_S16x512x1_0_1 (s.main_v5_3)) (broadcastInDim S16x512x1 ![] bcast_S_S16x512x1 (constantI S_ 32 2048#32))) (broadcastInDim S16x512x1 ![0, 1] bcast_S16x512_S16x512x1_0_1 (s.main_v5_3)))

/-- The numbers of the 32 nearest points of every point, nearest first. -/
def nearest (x : (⟨S16x2048x3, .f32⟩ : BufTy).Contents (Elt F)) : (⟨S16x65536x1, .i32⟩ : BufTy).Contents (Elt F) :=
  shapeCast _ ((Host.topK S16x2048x32 2 (FloatOps.cmpfTotal .gt) (Host.negf (subf (addf (broadcastInDim S16x2048x2048 ![0, 1, 2] bcast_S16x2048x1_S16x2048x2048_0_1_2 (broadcastInDim S16x2048x1 ![0, 1] bcast_S16x2048_S16x2048x1_0_1 (Host.reduceAdd (mulf x x) (constant S_ .f32 0x00000000#32) reducesTo_S16x2048x3_S16x2048_d2 h_S_))) (broadcastInDim S16x2048x2048 ![0, 1, 2] bcast_S16x1x2048_S16x2048x2048_0_1_2 (broadcastInDim S16x1x2048 ![0, 2] bcast_S16x2048_S16x1x2048_0_2 (Host.reduceAdd (mulf x x) (constant S_ .f32 0x00000000#32) reducesTo_S16x2048x3_S16x2048_d2 h_S_)))) (mulf (broadcastInDim S16x2048x2048 ![] bcast_S_S16x2048x2048 (constant S_ .f32 0x40000000#32)) (Host.dotGeneral dot_S16x2048x3_S16x2048x3_S16x2048x2048_2_2_1_1_0_0 none x x)))) sliceFits_S16x2048x2048_S16x2048x32).2) shapeCasts_S16x2048x32_S16x65536x1

/-- Numbers counted from the end where negative. -/
def wrap (i : (⟨S16x65536x1, .i32⟩ : BufTy).Contents (Elt F)) : (⟨S16x65536x1, .i32⟩ : BufTy).Contents (Elt F) :=
  select (cmpi .slt i (broadcastInDim S16x65536x1 ![] bcast_S_S16x65536x1 (constantI S_ 32 0#32))) (addi i (broadcastInDim S16x65536x1 ![] bcast_S_S16x65536x1 (constantI S_ 32 2048#32))) i

/-- The three layers over the gathered coordinates and features, and the maximum over the last layer's channels. -/
def mlp (p : (⟨S16x65536x3, .f32⟩ : BufTy).Contents (Elt F)) (f : (⟨S16x65536x16, .f32⟩ : BufTy).Contents (Elt F)) (x2 : (⟨S19x64, .f32⟩ : BufTy).Contents (Elt F)) (x3 : (⟨S64, .f32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S16x2048x32, .f32⟩ : BufTy).Contents (Elt F) :=
  shapeCast _ (Host.reduce FloatOps.maximumf (addf (Host.dotGeneral dot_S16x65536x128_S128x128_S16x65536x128_2_0_01_1_n_n none (maximumf (addf (Host.dotGeneral dot_S16x65536x64_S64x128_S16x65536x128_2_0_01_1_n_n none (maximumf (addf (Host.dotGeneral dot_S16x65536x19_S19x64_S16x65536x64_2_0_01_1_n_n none (concatenate S16x65536x19 2 [⟨S16x65536x3, p⟩, ⟨S16x65536x16, f⟩] concatenates_S16x65536x3_S16x65536x16_S16x65536x19_d2) x2) (broadcastInDim S16x65536x64 ![0, 1, 2] bcast_S1x1x64_S16x65536x64_0_1_2 (broadcastInDim S1x1x64 ![2] bcast_S64_S1x1x64_2 x3))) (broadcastInDim S16x65536x64 ![] bcast_S_S16x65536x64 (constant S_ .f32 0x00000000#32))) x4) (broadcastInDim S16x65536x128 ![0, 1, 2] bcast_S1x1x128_S16x65536x128_0_1_2 (broadcastInDim S1x1x128 ![2] bcast_S128_S1x1x128_2 x5))) (broadcastInDim S16x65536x128 ![] bcast_S_S16x65536x128 (constant S_ .f32 0x00000000#32))) x6) (broadcastInDim S16x65536x128 ![0, 1, 2] bcast_S1x1x128_S16x65536x128_0_1_2 (broadcastInDim S1x1x128 ![2] bcast_S128_S1x1x128_2 x7))) (constant S_ .f32 0xFF800000#32) reducesTo_S16x65536x128_S16x65536_d2 h_S_) shapeCasts_S16x65536_S16x2048x32

/-- The second result, of the arguments. -/
def pooled (x0 : (⟨S16x2048x3, .f32⟩ : BufTy).Contents (Elt F)) (x1 : (⟨S16x2048x16, .f32⟩ : BufTy).Contents (Elt F)) (x2 : (⟨S19x64, .f32⟩ : BufTy).Contents (Elt F)) (x3 : (⟨S64, .f32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S16x2048x32, .f32⟩ : BufTy).Contents (Elt F) :=
  mlp (Host.gather gather_S16x2048x3_S16x65536x1_S16x65536x3_2_1_0_0_1_2_113 x0 (wrap (nearest x0))) (Host.gather gather_S16x2048x16_S16x65536x1_S16x65536x16_2_1_0_0_1_2_1116 x1 (wrap (nearest x0))) x2 x3 x4 x5 x6 x7

/-- `main_v39`, which the operations after the loop make, of the loop's last state and the arguments they read. -/
def R_main_v39 (s : State F) (main_arg0 : (⟨S16x2048x3, .f32⟩ : BufTy).Contents (Elt F)) (main_arg1 : (⟨S16x2048x16, .f32⟩ : BufTy).Contents (Elt F)) (main_arg2 : (⟨S19x64, .f32⟩ : BufTy).Contents (Elt F)) (main_arg3 : (⟨S64, .f32⟩ : BufTy).Contents (Elt F)) (main_arg4 : (⟨S64x128, .f32⟩ : BufTy).Contents (Elt F)) (main_arg5 : (⟨S128, .f32⟩ : BufTy).Contents (Elt F)) (main_arg6 : (⟨S128x128, .f32⟩ : BufTy).Contents (Elt F)) (main_arg7 : (⟨S128, .f32⟩ : BufTy).Contents (Elt F)) : (⟨S16x2048x32, .f32⟩ : BufTy).Contents (Elt F) :=
  pooled main_arg0 main_arg1 main_arg2 main_arg3 main_arg4 main_arg5 main_arg6 main_arg7

end Cert.ReferenceIdeal.Step

end
-- ==== Proof.Ref.Post.lean ====
/- The reference's run, third part: what the operations after the loop make of what the loop leaves, and `run`: each
   result is read off `STEP` iterated on what stands at the loop's entry. -/
module

public import proofs.«01_k».proof.Proof.Ref.Read
public import proofs.«01_k».proof.Proof.Ref.Step

@[expose] public section

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

set_option maxRecDepth 8192 in
/-- `main_v7`, which the operations after the loop make, of the contents they start from. -/
def out_main_v7 (V0 : Valuation τ sig (Elt F)) : (Proc.devRef .tc main_v7 : DevRef τ sig).ty.Contents (Elt F) :=
  Host.gather gather_S16x2048x3_S16x512x1_S16x512x3_2_1_0_0_1_2_113 (V0 (Proc.devRef .tc main_arg0)) (select (cmpi .slt (broadcastInDim S16x512x1 ![0, 1] bcast_S16x512_S16x512x1_0_1 (V0 (Proc.devRef .tc main_v5_3))) (broadcastInDim S16x512x1 ![] bcast_S_S16x512x1 (constantI S_ 32 0#32))) (addi (broadcastInDim S16x512x1 ![0, 1] bcast_S16x512_S16x512x1_0_1 (V0 (Proc.devRef .tc main_v5_3))) (broadcastInDim S16x512x1 ![] bcast_S_S16x512x1 (constantI S_ 32 2048#32))) (broadcastInDim S16x512x1 ![0, 1] bcast_S16x512_S16x512x1_0_1 (V0 (Proc.devRef .tc main_v5_3))))
set_option maxRecDepth 8192 in
set_option maxHeartbeats 2000000 in
theorem post_main_v7 (V0 : Valuation τ sig (Elt F)) : afterL postI V0 (no_index (Proc.devRef .tc main_v7)) = out_main_v7 V0 := by
  unfold out_main_v7
  simp only [postI, afterL_cons, afterL_nil, hostOps0_1, hostOps0_2, hostOps0_3, hostOps0_4, hostOps0_5, hostOps0_6, hostOps0_7, hostOps0_8, hostOps0_9, hostOps0_10]
  after_results_entrywise []
set_option maxRecDepth 8192 in
theorem out_main_v7_congr {V0 V0' : Valuation τ sig (Elt F)} (h : Agree V0 V0') (h_main_arg0 : V0 (Proc.devRef .tc main_arg0) = V0' (Proc.devRef .tc main_arg0)) : out_main_v7 V0 = out_main_v7 V0' := by
  unfold out_main_v7
  rw [h_main_arg0, h main_v5_3 (by decide)]
/-- The nearest points' numbers, of what stands before them. -/
theorem stage_v20 (V0 : Valuation τ sig (Elt F)) : after hostOps0_3 V0 (no_index (Proc.devRef .tc main_v20)) = Step.nearest (V0 (Proc.devRef .tc main_arg0)) := by
  unfold Step.nearest
  after_results_entrywise []
/-- The coordinates gathered at them. -/
theorem stage_v21 (V0 : Valuation τ sig (Elt F)) : after hostOps0_4 V0 (no_index (Proc.devRef .tc main_v21)) = Host.gather gather_S16x2048x3_S16x65536x1_S16x65536x3_2_1_0_0_1_2_113 (V0 (Proc.devRef .tc main_arg0)) (Step.wrap (V0 (Proc.devRef .tc main_v20))) := by
  unfold Step.wrap
  after_results_entrywise []
/-- The features gathered at them. -/
theorem stage_v22 (V0 : Valuation τ sig (Elt F)) : after hostOps0_5 V0 (no_index (Proc.devRef .tc main_v22)) = Host.gather gather_S16x2048x16_S16x65536x1_S16x65536x16_2_1_0_0_1_2_1116 (V0 (Proc.devRef .tc main_arg1)) (Step.wrap (V0 (Proc.devRef .tc main_v20))) := by
  unfold Step.wrap
  after_results_entrywise []
/-- The gather of the coordinates leaves the numbers as they were. -/
theorem stage_keep_v20 (V0 : Valuation τ sig (Elt F)) : after hostOps0_4 V0 (no_index (Proc.devRef .tc main_v20)) = V0 (Proc.devRef .tc main_v20) := by
  after_results_entrywise []
/-- The gather of the features leaves the coordinates as they were. -/
theorem stage_keep_v21 (V0 : Valuation τ sig (Elt F)) : after hostOps0_5 V0 (no_index (Proc.devRef .tc main_v21)) = V0 (Proc.devRef .tc main_v21) := by
  after_results_entrywise []
set_option maxHeartbeats 1000000 in
/-- The three layers and the maximum over the last of them, of the gathered rows. -/
theorem stage_v39 (V0 : Valuation τ sig (Elt F)) : after hostOps0_10 (after hostOps0_9 (after hostOps0_8 (after hostOps0_7 (after hostOps0_6 V0)))) (no_index (Proc.devRef .tc main_v39))
    = Step.mlp (V0 (Proc.devRef .tc main_v21)) (V0 (Proc.devRef .tc main_v22)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold Step.mlp
  after_results_entrywise []
/-- `main_v39`, which the operations after the loop make, of the contents they start from. -/
def out_main_v39 (V0 : Valuation τ sig (Elt F)) : (Proc.devRef .tc main_v39 : DevRef τ sig).ty.Contents (Elt F) :=
  Step.pooled (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))
theorem post_main_v39 (V0 : Valuation τ sig (Elt F)) : afterL postI V0 (no_index (Proc.devRef .tc main_v39)) = out_main_v39 V0 := by
  unfold out_main_v39 Step.pooled
  simp only [postI, afterL_cons, afterL_nil]
  rw [stage_v39, stage_keep_v21, stage_v22, stage_v21, stage_keep_v20, stage_v20, keep_main_arg2_hostOps0_5, keep_main_arg2_hostOps0_4, keep_main_arg2_hostOps0_3, keep_main_arg2_hostOps0_2, keep_main_arg2_hostOps0_1, keep_main_arg3_hostOps0_5, keep_main_arg3_hostOps0_4, keep_main_arg3_hostOps0_3, keep_main_arg3_hostOps0_2, keep_main_arg3_hostOps0_1, keep_main_arg4_hostOps0_5, keep_main_arg4_hostOps0_4, keep_main_arg4_hostOps0_3, keep_main_arg4_hostOps0_2, keep_main_arg4_hostOps0_1, keep_main_arg5_hostOps0_5, keep_main_arg5_hostOps0_4, keep_main_arg5_hostOps0_3, keep_main_arg5_hostOps0_2, keep_main_arg5_hostOps0_1, keep_main_arg6_hostOps0_5, keep_main_arg6_hostOps0_4, keep_main_arg6_hostOps0_3, keep_main_arg6_hostOps0_2, keep_main_arg6_hostOps0_1, keep_main_arg7_hostOps0_5, keep_main_arg7_hostOps0_4, keep_main_arg7_hostOps0_3, keep_main_arg7_hostOps0_2, keep_main_arg7_hostOps0_1, keep_main_arg1_hostOps0_4, keep_main_arg1_hostOps0_3, keep_main_arg1_hostOps0_2, keep_main_arg1_hostOps0_1, keep_main_arg0_hostOps0_3, keep_main_arg0_hostOps0_2, keep_main_arg0_hostOps0_1]
set_option maxRecDepth 8192 in
theorem out_main_v39_congr {V0 V0' : Valuation τ sig (Elt F)} (h : Agree V0 V0') (h_main_arg0 : V0 (Proc.devRef .tc main_arg0) = V0' (Proc.devRef .tc main_arg0)) (h_main_arg1 : V0 (Proc.devRef .tc main_arg1) = V0' (Proc.devRef .tc main_arg1)) (h_main_arg2 : V0 (Proc.devRef .tc main_arg2) = V0' (Proc.devRef .tc main_arg2)) (h_main_arg3 : V0 (Proc.devRef .tc main_arg3) = V0' (Proc.devRef .tc main_arg3)) (h_main_arg4 : V0 (Proc.devRef .tc main_arg4) = V0' (Proc.devRef .tc main_arg4)) (h_main_arg5 : V0 (Proc.devRef .tc main_arg5) = V0' (Proc.devRef .tc main_arg5)) (h_main_arg6 : V0 (Proc.devRef .tc main_arg6) = V0' (Proc.devRef .tc main_arg6)) (h_main_arg7 : V0 (Proc.devRef .tc main_arg7) = V0' (Proc.devRef .tc main_arg7)) : out_main_v39 V0 = out_main_v39 V0' := by
  unfold out_main_v39
  rw [h_main_arg0, h_main_arg1, h_main_arg2, h_main_arg3, h_main_arg4, h_main_arg5, h_main_arg6, h_main_arg7]
/-- THE RUN: on every device, for any float values, from any memory with zero counters, every weakly fair execution
    of @main terminates with each result at its component of `STEP` iterated 512 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v7) = out_main_v7 (STEP^[512] (entryContents preI m c))
      ∧ r.2.mem ((c.tc : Thread nD τ).loc main_v39) = out_main_v39 (STEP^[512] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v7 rfl).trans ((post_main_v7 _).trans (out_main_v7_congr (fun j hj => (cond_keeps _ j hj).trans (atK_agree m c 512 j hj)) ((keep_main_arg0_condOps _).trans ((atK_main_arg0 m c 512).trans (iter_main_arg0 m c 512).symm)))),
      (h c main_v39 rfl).trans ((post_main_v39 _).trans (out_main_v39_congr (fun j hj => (cond_keeps _ j hj).trans (atK_agree m c 512 j hj)) ((keep_main_arg0_condOps _).trans ((atK_main_arg0 m c 512).trans (iter_main_arg0 m c 512).symm)) ((keep_main_arg1_condOps _).trans ((atK_main_arg1 m c 512).trans (iter_main_arg1 m c 512).symm)) ((keep_main_arg2_condOps _).trans ((atK_main_arg2 m c 512).trans (iter_main_arg2 m c 512).symm)) ((keep_main_arg3_condOps _).trans ((atK_main_arg3 m c 512).trans (iter_main_arg3 m c 512).symm)) ((keep_main_arg4_condOps _).trans ((atK_main_arg4 m c 512).trans (iter_main_arg4 m c 512).symm)) ((keep_main_arg5_condOps _).trans ((atK_main_arg5 m c 512).trans (iter_main_arg5 m c 512).symm)) ((keep_main_arg6_condOps _).trans ((atK_main_arg6 m c 512).trans (iter_main_arg6 m c 512).symm)) ((keep_main_arg7_condOps _).trans ((atK_main_arg7 m c 512).trans (iter_main_arg7 m c 512).symm)))),
      (h c main_arg0 rfl).trans ((post_keeps_main_arg0 _).trans ((keep_main_arg0_condOps _).trans (atK_main_arg0 m c 512))),
      (h c main_arg1 rfl).trans ((post_keeps_main_arg1 _).trans ((keep_main_arg1_condOps _).trans (atK_main_arg1 m c 512))),
      (h c main_arg2 rfl).trans ((post_keeps_main_arg2 _).trans ((keep_main_arg2_condOps _).trans (atK_main_arg2 m c 512))),
      (h c main_arg3 rfl).trans ((post_keeps_main_arg3 _).trans ((keep_main_arg3_condOps _).trans (atK_main_arg3 m c 512))),
      (h c main_arg4 rfl).trans ((post_keeps_main_arg4 _).trans ((keep_main_arg4_condOps _).trans (atK_main_arg4 m c 512))),
      (h c main_arg5 rfl).trans ((post_keeps_main_arg5 _).trans ((keep_main_arg5_condOps _).trans (atK_main_arg5 m c 512))),
      (h c main_arg6 rfl).trans ((post_keeps_main_arg6 _).trans ((keep_main_arg6_condOps _).trans (atK_main_arg6 m c 512))),
      (h c main_arg7 rfl).trans ((post_keeps_main_arg7 _).trans ((keep_main_arg7_condOps _).trans (atK_main_arg7 m c 512)))⟩) (run_fold m ρ)

end Cert.ReferenceIdeal.Value

end
-- ==== Proof.Ref.StepRun.lean ====
/- The reference's run stated over `step`: what stands at the carried buffers before trip `k` is state number `k` of any
   sequence that starts at `init` and goes on by `step`, and `run_iter` reads the results off state 512. -/
module

public import proofs.«01_k».proof.Proof.Ref.Post
public import proofs.«01_k».proof.Proof.Ref.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v5_3) = s.main_v5_3
  f_4 : V0 (Proc.devRef .tc main_v5_4) = s.main_v5_4
  f_5 : V0 (Proc.devRef .tc main_v5_5) = s.main_v5_5
  f_0 : V0 (Proc.devRef .tc main_v5_0) = s.main_v5_0
  n_1 : V0 (Proc.devRef .tc main_v5_1) = constantI S_ 32 (BitVec.ofNat 32 j)
  n_2 : V0 (Proc.devRef .tc main_v5_2) = constantI S_ 32 (BitVec.ofNat 32 j)

variable {V0 s j}

set_option maxRecDepth 8192 in
theorem al_0 (h : Holds V0 s j) : (constantI S_ 32 1#32 : (Proc.devRef .tc main_while0b_c_12 : DevRef τ sig).ty.Contents (Elt F)) = Cert.ReferenceIdeal.Step.b0 j s := by
  unfold Cert.ReferenceIdeal.Step.b0
  rfl
set_option maxRecDepth 8192 in
theorem al_1 (h : Holds V0 s j) : (addi (V0 (Proc.devRef .tc main_v5_2)) (constantI S_ 32 1#32) : (Proc.devRef .tc main_while0b_v40 : DevRef τ sig).ty.Contents (Elt F)) = Cert.ReferenceIdeal.Step.b1 j s := by
  unfold Cert.ReferenceIdeal.Step.b1
  rw [← al_0 h, h.n_2]
  try rfl
set_option maxRecDepth 8192 in
theorem al_2 (h : Holds V0 s j) : (constantI S_ 32 0#32 : (Proc.devRef .tc main_while0b_c_13 : DevRef τ sig).ty.Contents (Elt F)) = Cert.ReferenceIdeal.Step.b2 j s := by
  unfold Cert.ReferenceIdeal.Step.b2
  rfl
set_option maxRecDepth 8192 in
theorem al_3 (h : Holds V0 s j) : (cmpi .slt (V0 (Proc.devRef .tc main_v5_2)) (constantI S_ 32 0#32) : (Proc.devRef .tc main_while0b_v41 : DevRef τ sig).ty.Contents (Elt F)) = Cert.ReferenceIdeal.Step.b3 j s := by
  unfold Cert.ReferenceIdeal.Step.b3
  rw [← al_2 h, h.n_2]
  try rfl
set_option maxRecDepth 8192 in
theorem al_4 (h : Holds V0 s j) : (constantI S_ 32 512#32 : (Proc.devRef .tc main_while0b_c_14 : DevRef τ sig).ty.Contents (Elt F)) = Cert.ReferenceIdeal.Step.b4 j s := by
  unfold Cert.ReferenceIdeal.Step.b4
  rfl
set_option maxRecDepth 8192 in
theorem al_5 (h : Holds V0 s j) : (addi (V0 (Proc.devRef .tc main_v5_2)) (constantI S_ 32 512#32) : (Proc.devRef .tc main_while0b_v42 : DevRef τ sig).ty.Contents (Elt F)) = Cert.ReferenceIdeal.Step.b5 j s := by
  unfold Cert.ReferenceIdeal.Step.b5
  rw [← al_4 h, h.n_2]
  try rfl
set_option maxRecDepth 8192 in
theorem al_6 (h : Holds V0 s j) : (select (cmpi .slt (V0 (Proc.devRef .tc main_v5_2)) (constantI S_ 32 0#32)) (addi (V0 (Proc.devRef .tc main_v5_2)) (constantI S_ 32 512#32)) (V0 (Proc.devRef .tc main_v5_2)) : (Proc.devRef .tc main_while0b_v43 : DevRef τ sig).ty.Contents (Elt F)) = Cert.ReferenceIdeal.Step.b6 j s := by
  unfold Cert.ReferenceIdeal.Step.b6
  rw [← al_3 h, ← al_5 h, h.n_2]
  try rfl
set_option maxRecDepth 8192 in
theorem al_7 (h : Holds V0 s j) : (id (select (cmpi .slt (V0 (Proc.devRef .tc main_v5_2)) (constantI S_ 32 0#32)) (addi (V0 (Proc.devRef .tc main_v5_2)) (constantI S_ 32 512#32)) (V0 (Proc.devRef .tc main_v5_2))) : (Proc.devRef .tc main_while0b_v44 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (broadcastInDim S1 ![] bcast_S_S1 (id (select (cmpi .slt (V0 (Proc.devRef .tc main_v5_2)) (constantI S_ 32 0#32)) (addi (V0 (Proc.devRef .tc main_v5_2)) (constantI S_ 32 512#32)) (V0 (Proc.devRef .tc main_v5_2)))) : (Proc.devRef .tc main_while0b_v45 : DevRef τ sig).ty.Contents (Elt F)) = Cert.ReferenceIdeal.Step.b8 j s := by
  unfold Cert.ReferenceIdeal.Step.b8
  rw [← al_7 h]
  try rfl
set_option maxRecDepth 8192 in
theorem al_9 (h : Holds V0 s j) : (Host.scatter scatter_S16x512_S1_S16_0_1_1_0 (fun _ b => b) (V0 (Proc.devRef .tc main_v5_3)) (broadcastInDim S1 ![] bcast_S_S1 (id (select (cmpi .slt (V0 (Proc.devRef .tc main_v5_2)) (constantI S_ 32 0#32)) (addi (V0 (Proc.devRef .tc main_v5_2)) (constantI S_ 32 512#32)) (V0 (Proc.devRef .tc main_v5_2))))) (V0 (Proc.devRef .tc main_v5_5)) : (Proc.devRef .tc main_while0b_v46 : DevRef τ sig).ty.Contents (Elt F)) = Cert.ReferenceIdeal.Step.b9 j s := by
  unfold Cert.ReferenceIdeal.Step.b9
  rw [← al_8 h, h.f_3, h.f_5]
  try rfl
set_option maxRecDepth 8192 in
theorem al_10 (h : Holds V0 s j) : (res_main_while0b_v47 V0 : (Proc.devRef .tc main_while0b_v47 : DevRef τ sig).ty.Contents (Elt F)) = Cert.ReferenceIdeal.Step.b10 j s := by
  unfold res_main_while0b_v47 Cert.ReferenceIdeal.Step.b10
  rw [h.f_5]
  try rfl
set_option maxRecDepth 8192 in
theorem al_11 (h : Holds V0 s j) : (constantI S_ 32 0#32 : (Proc.devRef .tc main_while0b_call0_c : DevRef τ sig).ty.Contents (Elt F)) = Cert.ReferenceIdeal.Step.b11 j s := by
  unfold Cert.ReferenceIdeal.Step.b11
  rfl
set_option maxRecDepth 8192 in
theorem al_12 (h : Holds V0 s j) : (broadcastInDim S16x1x1 ![] bcast_S_S16x1x1 (constantI S_ 32 0#32) : (Proc.devRef .tc main_while0b_call0_v0 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (cmpi .slt (res_main_while0b_v47 V0) (broadcastInDim S16x1x1 ![] bcast_S_S16x1x1 (constantI S_ 32 0#32)) : (Proc.devRef .tc main_while0b_call0_v1 : DevRef τ sig).ty.Contents (Elt F)) = Cert.ReferenceIdeal.Step.b13 j s := by
  unfold Cert.ReferenceIdeal.Step.b13
  rw [← al_10 h, ← al_12 h]
  try rfl
set_option maxRecDepth 8192 in
theorem al_14 (h : Holds V0 s j) : (constantI S_ 32 2048#32 : (Proc.devRef .tc main_while0b_call0_c_0 : DevRef τ sig).ty.Contents (Elt F)) = Cert.ReferenceIdeal.Step.b14 j s := by
  unfold Cert.ReferenceIdeal.Step.b14
  rfl
set_option maxRecDepth 8192 in
theorem al_15 (h : Holds V0 s j) : (broadcastInDim S16x1x1 ![] bcast_S_S16x1x1 (constantI S_ 32 2048#32) : (Proc.devRef .tc main_while0b_call0_v2 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (addi (res_main_while0b_v47 V0) (broadcastInDim S16x1x1 ![] bcast_S_S16x1x1 (constantI S_ 32 2048#32)) : (Proc.devRef .tc main_while0b_call0_v3 : DevRef τ sig).ty.Contents (Elt F)) = Cert.ReferenceIdeal.Step.b16 j s := by
  unfold Cert.ReferenceIdeal.Step.b16
  rw [← al_10 h, ← al_15 h]
  try rfl
set_option maxRecDepth 8192 in
theorem al_17 (h : Holds V0 s j) : (select (cmpi .slt (res_main_while0b_v47 V0) (broadcastInDim S16x1x1 ![] bcast_S_S16x1x1 (constantI S_ 32 0#32))) (addi (res_main_while0b_v47 V0) (broadcastInDim S16x1x1 ![] bcast_S_S16x1x1 (constantI S_ 32 2048#32))) (res_main_while0b_v47 V0) : (Proc.devRef .tc main_while0b_call0_v4 : DevRef τ sig).ty.Contents (Elt F)) = Cert.ReferenceIdeal.Step.b17 j s := by
  unfold Cert.ReferenceIdeal.Step.b17
  rw [← al_13 h, ← al_16 h, ← al_10 h]
  try rfl
set_option maxRecDepth 8192 in
theorem al_18 (h : Holds V0 s j) : (Host.gather gather_S16x2048x3_S16x1x1_S16x1x3_2_1_0_0_1_2_113 (V0 (Proc.devRef .tc main_v5_0)) (select (cmpi .slt (res_main_while0b_v47 V0) (broadcastInDim S16x1x1 ![] bcast_S_S16x1x1 (constantI S_ 32 0#32))) (addi (res_main_while0b_v47 V0) (broadcastInDim S16x1x1 ![] bcast_S_S16x1x1 (constantI S_ 32 2048#32))) (res_main_while0b_v47 V0)) : (Proc.devRef .tc main_while0b_v48 : DevRef τ sig).ty.Contents (Elt F)) = Cert.ReferenceIdeal.Step.b18 j s := by
  unfold Cert.ReferenceIdeal.Step.b18
  rw [← al_17 h, h.f_0]
  try rfl
set_option maxRecDepth 8192 in
theorem al_19 (h : Holds V0 s j) : (broadcastInDim S16x2048x3 ![0, 1, 2] bcast_S16x1x3_S16x2048x3_0_1_2 (Host.gather gather_S16x2048x3_S16x1x1_S16x1x3_2_1_0_0_1_2_113 (V0 (Proc.devRef .tc main_v5_0)) (select (cmpi .slt (res_main_while0b_v47 V0) (broadcastInDim S16x1x1 ![] bcast_S_S16x1x1 (constantI S_ 32 0#32))) (addi (res_main_while0b_v47 V0) (broadcastInDim S16x1x1 ![] bcast_S_S16x1x1 (constantI S_ 32 2048#32))) (res_main_while0b_v47 V0))) : (Proc.devRef .tc main_while0b_v49 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (res_main_while0b_v50 V0 : (Proc.devRef .tc main_while0b_v50 : DevRef τ sig).ty.Contents (Elt F)) = Cert.ReferenceIdeal.Step.b20 j s := by
  unfold res_main_while0b_v50 Cert.ReferenceIdeal.Step.b20
  rw [← al_19 h, h.f_0]
  try rfl
set_option maxRecDepth 8192 in
theorem al_21 (h : Holds V0 s j) : (mulf (res_main_while0b_v50 V0) (res_main_while0b_v50 V0) : (Proc.devRef .tc main_while0b_v51 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (constant S_ .f32 0x00000000#32 : (Proc.devRef .tc main_while0b_cst_15 : DevRef τ sig).ty.Contents (Elt F)) = Cert.ReferenceIdeal.Step.b22 j s := by
  unfold Cert.ReferenceIdeal.Step.b22
  rfl
set_option maxRecDepth 8192 in
theorem al_23 (h : Holds V0 s j) : (Host.reduceAdd (mulf (res_main_while0b_v50 V0) (res_main_while0b_v50 V0)) (constant S_ .f32 0x00000000#32) reducesTo_S16x2048x3_S16x2048_d2 h_S_ : (Proc.devRef .tc main_while0b_v52 : DevRef τ sig).ty.Contents (Elt F)) = Cert.ReferenceIdeal.Step.b23 j s := by
  unfold Cert.ReferenceIdeal.Step.b23
  rw [← al_21 h, ← al_22 h]
  try rfl
set_option maxRecDepth 8192 in
theorem al_24 (h : Holds V0 s j) : (res_main_while0b_v53 V0 : (Proc.devRef .tc main_while0b_v53 : DevRef τ sig).ty.Contents (Elt F)) = Cert.ReferenceIdeal.Step.b24 j s := by
  unfold res_main_while0b_v53 Cert.ReferenceIdeal.Step.b24
  rw [← al_23 h, h.f_4]
  try rfl
set_option maxRecDepth 8192 in
theorem al_25 (h : Holds V0 s j) : (res_main_while0b_call1_v0 V0 : (Proc.devRef .tc main_while0b_call1_v0 : DevRef τ sig).ty.Contents (Elt F)) = Cert.ReferenceIdeal.Step.b25 j s := by
  unfold res_main_while0b_call1_v0 Cert.ReferenceIdeal.Step.b25
  rfl
set_option maxRecDepth 8192 in
theorem al_26 (h : Holds V0 s j) : (res_main_while0b_call1_cst V0 : (Proc.devRef .tc main_while0b_call1_cst : DevRef τ sig).ty.Contents (Elt F)) = Cert.ReferenceIdeal.Step.b26 j s := by
  unfold res_main_while0b_call1_cst Cert.ReferenceIdeal.Step.b26
  rfl
set_option maxRecDepth 8192 in
theorem al_27 (h : Holds V0 s j) : (res_main_while0b_call1_c V0 : (Proc.devRef .tc main_while0b_call1_c : DevRef τ sig).ty.Contents (Elt F)) = Cert.ReferenceIdeal.Step.b27 j s := by
  unfold res_main_while0b_call1_c Cert.ReferenceIdeal.Step.b27
  rfl
set_option maxRecDepth 8192 in
theorem al_28 (h : Holds V0 s j) : ((fun j => (Host.argReduce reducer_argmax_f32_i32 (res_main_while0b_v53 V0) (res_main_while0b_call1_v0 V0) (res_main_while0b_call1_cst V0) (res_main_while0b_call1_c V0) reducesTo_S16x2048_S16_d1 h_S_ j).1) : (Proc.devRef .tc main_while0b_call1_v1_0 : DevRef τ sig).ty.Contents (Elt F)) = Cert.ReferenceIdeal.Step.b28 j s := by
  unfold Cert.ReferenceIdeal.Step.b28
  rw [← al_24 h, ← al_25 h, ← al_26 h, ← al_27 h]
  try rfl
set_option maxRecDepth 8192 in
theorem al_29 (h : Holds V0 s j) : ((fun j => (Host.argReduce reducer_argmax_f32_i32 (res_main_while0b_v53 V0) (res_main_while0b_call1_v0 V0) (res_main_while0b_call1_cst V0) (res_main_while0b_call1_c V0) reducesTo_S16x2048_S16_d1 h_S_ j).2) : (Proc.devRef .tc main_while0b_v54 : DevRef τ sig).ty.Contents (Elt F)) = Cert.ReferenceIdeal.Step.b29 j s := by
  unfold Cert.ReferenceIdeal.Step.b29
  rw [← al_24 h, ← al_25 h, ← al_26 h, ← al_27 h]
  try rfl

/-! One trip's step of the carried values is `step`, field by field; a counter steps to the next number. -/

attribute [local irreducible] Host.scatter in
theorem step_3 (h : Holds V0 s j) : step_main_v5_3 V0 = (step j s).main_v5_3 := by
  unfold step_main_v5_3
  rw [Cert.ReferenceIdeal.Step.step_main_v5_3, ← al_9 h]
  first | rfl | exact id_eq _
theorem step_4 (h : Holds V0 s j) : step_main_v5_4 V0 = (step j s).main_v5_4 := by
  unfold step_main_v5_4
  rw [Cert.ReferenceIdeal.Step.step_main_v5_4, ← al_24 h]
  first | rfl | exact id_eq _
theorem step_5 (h : Holds V0 s j) : step_main_v5_5 V0 = (step j s).main_v5_5 := by
  unfold step_main_v5_5
  rw [Cert.ReferenceIdeal.Step.step_main_v5_5, ← al_29 h]
  first | rfl | exact id_eq _
theorem step_1 (h : Holds V0 s j) : step_main_v5_1 V0 = constantI S_ 32 (BitVec.ofNat 32 (j + 1)) := by
  unfold step_main_v5_1
  rw [h.n_1]
  funext i
  show BitVec.ofNat 32 j + 1#32 = BitVec.ofNat 32 (j + 1)
  simp only [BitVec.ofNat_add]
theorem step_2 (h : Holds V0 s j) : step_main_v5_2 V0 = constantI S_ 32 (BitVec.ofNat 32 (j + 1)) := by
  unfold step_main_v5_2
  rw [h.n_2]
  funext i
  show BitVec.ofNat 32 j + 1#32 = BitVec.ofNat 32 (j + 1)
  simp only [BitVec.ofNat_add]

set_option maxRecDepth 8192 in
theorem out_main_v7_holds (h : Holds V0 s j) {x_main_arg0 : (⟨S16x2048x3, .f32⟩ : BufTy).Contents (Elt F)} (h_main_arg0 : V0 (Proc.devRef .tc main_arg0) = x_main_arg0) : out_main_v7 V0 = Cert.ReferenceIdeal.Step.R_main_v7 s x_main_arg0 := by
  unfold out_main_v7 Cert.ReferenceIdeal.Step.R_main_v7
  rw [h.f_3, h_main_arg0]
  try rfl

set_option maxRecDepth 8192 in
theorem out_main_v39_holds (h : Holds V0 s j) {x_main_arg0 : (⟨S16x2048x3, .f32⟩ : BufTy).Contents (Elt F)} (h_main_arg0 : V0 (Proc.devRef .tc main_arg0) = x_main_arg0) {x_main_arg1 : (⟨S16x2048x16, .f32⟩ : BufTy).Contents (Elt F)} (h_main_arg1 : V0 (Proc.devRef .tc main_arg1) = x_main_arg1) {x_main_arg2 : (⟨S19x64, .f32⟩ : BufTy).Contents (Elt F)} (h_main_arg2 : V0 (Proc.devRef .tc main_arg2) = x_main_arg2) {x_main_arg3 : (⟨S64, .f32⟩ : BufTy).Contents (Elt F)} (h_main_arg3 : V0 (Proc.devRef .tc main_arg3) = x_main_arg3) {x_main_arg4 : (⟨S64x128, .f32⟩ : BufTy).Contents (Elt F)} (h_main_arg4 : V0 (Proc.devRef .tc main_arg4) = x_main_arg4) {x_main_arg5 : (⟨S128, .f32⟩ : BufTy).Contents (Elt F)} (h_main_arg5 : V0 (Proc.devRef .tc main_arg5) = x_main_arg5) {x_main_arg6 : (⟨S128x128, .f32⟩ : BufTy).Contents (Elt F)} (h_main_arg6 : V0 (Proc.devRef .tc main_arg6) = x_main_arg6) {x_main_arg7 : (⟨S128, .f32⟩ : BufTy).Contents (Elt F)} (h_main_arg7 : V0 (Proc.devRef .tc main_arg7) = x_main_arg7) : out_main_v39 V0 = Cert.ReferenceIdeal.Step.R_main_v39 s x_main_arg0 x_main_arg1 x_main_arg2 x_main_arg3 x_main_arg4 x_main_arg5 x_main_arg6 x_main_arg7 := by
  unfold out_main_v39 Cert.ReferenceIdeal.Step.R_main_v39
  rw [h_main_arg0, h_main_arg1, h_main_arg2, h_main_arg3, h_main_arg4, h_main_arg5, h_main_arg6, h_main_arg7]
  try rfl

/-- One trip keeps the valuation holding: `step` of the state, the same set-up values, the next number. -/
theorem holds_step (h : Holds V0 s j) : Holds (STEP V0) (step j s) (j + 1) where
  f_3 := (STEP_main_v5_3 V0).trans (step_3 h)
  f_4 := (STEP_main_v5_4 V0).trans (step_4 h)
  f_5 := (STEP_main_v5_5 V0).trans (step_5 h)
  n_1 := (STEP_main_v5_1 V0).trans (step_1 h)
  n_2 := (STEP_main_v5_2 V0).trans (step_2 h)
  f_0 := (STEP_main_v5_0 V0).trans h.f_0

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 512 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v7) = Cert.ReferenceIdeal.Step.R_main_v7 (it c 512) (m ((c.tc : Thread nD τ).loc main_arg0))
      ∧ r.2.mem ((c.tc : Thread nD τ).loc main_v39) = Cert.ReferenceIdeal.Step.R_main_v39 (it c 512) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 512
    ⟨(h c).1.trans (out_main_v7_holds hk (iter_main_arg0 m c 512)), (h c).2.1.trans (out_main_v39_holds hk (iter_main_arg0 m c 512) (iter_main_arg1 m c 512) (iter_main_arg2 m c 512) (iter_main_arg3 m c 512) (iter_main_arg4 m c 512) (iter_main_arg5 m c 512) (iter_main_arg6 m c 512) (iter_main_arg7 m c 512)), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.StepRun

end
-- ==== Proof.Eq.Picks.lean ====
/- The index of the first maximum of a row of extended reals: the kernel finds it by a masked minimum over the lanes that
   hold the maximum, the reference by an arg-max fold. Both find the same one. Also the reference's gather of whole rows
   and its write of one column, read at an index. -/
module

public import proofs.«01_k».proof.ReferenceIdeal
public import proofs.«01_k».proof.Proof.Gen.ReferenceIdeal
public import Idealize.ShloMosaic.Lib.Pointwise
public import Idealize.ShloMosaic.Lib.SortNet.Extract
public import Idealize.ShloMosaic.Lib.StableHlo.Predicate
public import Idealize.ShloMosaic.Lib.Routing.OpsOne
public import Idealize.ShloMosaic.PureOps.Ideal.Laws

@[expose] public section

set_option maxRecDepth 16384

noncomputable section

namespace Cert.Picks

open Idealize.ShloMosaic

/-- `p` is the first place where `f` is greatest. -/
def FirstMax {n : ℕ} (f : Fin n → EReal) (p : Fin n) : Prop := (∀ l, f l ≤ f p) ∧ ∀ l, l < p → f l < f p

/-- There is only one such place. -/
theorem FirstMax.eq {n : ℕ} {f : Fin n → EReal} {p q : Fin n} (hp : FirstMax f p) (hq : FirstMax f q) : p = q := by
  rcases lt_trichotomy p q with h | h | h
  · exact absurd (hq.2 p h) (not_lt.2 (hp.1 q))
  · exact h
  · exact absurd (hp.2 q h) (not_lt.2 (hq.1 p))

/-- There is one. -/
theorem exists_firstMax {n : ℕ} [NeZero n] (f : Fin n → EReal) : ∃ p, FirstMax f p := by
  classical
  obtain ⟨m, hm⟩ := Finite.exists_max f
  have hne : (Finset.univ.filter fun l => f l = f m).Nonempty := ⟨m, by simp⟩
  have hp := Finset.min'_mem _ hne
  have hv : f ((Finset.univ.filter fun l => f l = f m).min' hne) = f m := by simpa using hp
  refine ⟨(Finset.univ.filter fun l => f l = f m).min' hne, fun l => by rw [hv]; exact hm l, fun l hl => ?_⟩
  rw [hv]
  refine lt_of_le_of_ne (hm l) fun e => absurd hl (not_lt.2 (Finset.min'_le _ _ (by simpa using e)))

/-- The word of −∞ stands for −∞. -/
theorem negInf : Ideal.ofBits FTy.f32 4286578688#32 = (⊥ : EReal) := by simp [Ideal.ofBits, Ideal.ieee]

/-- The word of one stands for one. -/
theorem one : Ideal.ofBits FTy.f32 1065353216#32 = (1 : EReal) := by
  simp [Ideal.ofBits, Ideal.ieee, -EReal.coe_mul]; norm_num

/-- The greatest value of a row, folded from −∞. -/
theorem fold_max_eq {n : ℕ} {f : Fin n → EReal} {p : Fin n} (hp : ∀ l, f l ≤ f p) :
    Finset.fold max (Ideal.ofBits FTy.f32 4286578688#32) f Finset.univ = f p := by
  rw [negInf]
  refine le_antisymm (Finset.fold_max_le _ |>.2 ⟨bot_le, fun l _ => hp l⟩) ?_
  exact (Finset.le_fold_max _).2 (Or.inr ⟨p, Finset.mem_univ _, le_rfl⟩)

/-- The kernel's pick: the least lane number among those that hold the maximum, over at most 2048 lanes. -/
theorem fold_minsi_eq {f : Fin 2048 → EReal} {p : Fin 2048} (hp : FirstMax f p) :
    Finset.fold IntOp.minsi (2147483647#32) (fun x : Fin 2048 => if f x = f p then BitVec.ofNat 32 x.val else 2048#32) Finset.univ
      = BitVec.ofNat 32 p.val := by
  apply BitVec.eq_of_toInt_eq
  rw [← Finset.fold_hom (op' := (min : ℤ → ℤ → ℤ)) (m := BitVec.toInt) (fun x y => SortNet.toInt_minsi x y)]
  have hval : ∀ x : Fin 2048, (BitVec.ofNat 32 x.val).toInt = (x.val : ℤ) := fun x =>
    StableHlo.Predicate.toInt_ofNat_small _ (by have := x.isLt; omega)
  rw [hval p]
  refine le_antisymm ?_ ?_
  · refine (Finset.fold_min_le _).2 (Or.inr ⟨p, Finset.mem_univ _, ?_⟩)
    rw [if_pos rfl, hval]
  · refine (Finset.le_fold_min _).2 ⟨?_, fun x _ => ?_⟩
    · have h2 : (2147483647#32).toInt = 2147483647 := by decide
      rw [h2]; have := p.isLt; omega
    · split
      · rename_i e
        rw [hval]
        by_contra hlt
        have hlt' : x < p := by rw [Fin.lt_def]; omega
        exact absurd e (hp.2 x hlt').ne
      · have h2 : (2048#32).toInt = 2048 := by decide
        rw [h2]; have := p.isLt; omega

/-- The sum of a row in which every lane but one is replaced by zero is that lane. -/
theorem sum_pick {f : Fin 2048 → EReal} (p : Fin 2048) :
    ∑ x : Fin 2048, Scalar.select (IntOp.cmpi CmpIPredicate.eq (BitVec.ofNat 32 x.val) (BitVec.ofNat 32 p.val)) (f x) 0 = f p := by
  rw [Finset.sum_eq_single p]
  · simp [Scalar.select, IntOp.cmpi]
  · intro x _ hx
    have hne : BitVec.ofNat 32 x.val ≠ BitVec.ofNat 32 p.val := fun e => hx (Fin.ext (by
      have := congrArg BitVec.toNat e
      simp only [BitVec.toNat_ofNat] at this
      have := x.isLt
      have := p.isLt
      omega))
    simp [Scalar.select, IntOp.cmpi, beq_eq_false_iff_ne.2 hne]
  · exact fun h => absurd (Finset.mem_univ p) h

/-! The arg-max fold of the reference. -/

/-- What a pair beats: a smaller value, or an equal one at the same or a later number. -/
def Beats (a b : EReal × BitVec 32) : Prop := b.1 < a.1 ∨ (b.1 = a.1 ∧ a.2.toInt ≤ b.2.toInt)

theorem Beats.refl (a : EReal × BitVec 32) : Beats a a := Or.inr ⟨rfl, le_rfl⟩

theorem Beats.trans {a b c : EReal × BitVec 32} (h : Beats a b) (h' : Beats b c) : Beats a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- One step of the fold returns one of the two pairs, and it beats both. -/
theorem reducer_spec (a b : EReal × BitVec 32) :
    (ReferenceIdeal.reducer_argmax_f32_i32 (F := Ideal) a b = a ∨ ReferenceIdeal.reducer_argmax_f32_i32 (F := Ideal) a b = b)
    ∧ Beats (ReferenceIdeal.reducer_argmax_f32_i32 (F := Ideal) a b) a ∧ Beats (ReferenceIdeal.reducer_argmax_f32_i32 (F := Ideal) a b) b := by
  obtain ⟨a1, a2⟩ := a
  obtain ⟨b1, b2⟩ := b
  have key : ReferenceIdeal.reducer_argmax_f32_i32 (F := Ideal) (a1, a2) (b1, b2)
      = if b1 < a1 then (a1, a2) else if a1 = b1 ∧ a2.toInt < b2.toInt then (b1, a2) else (b1, b2) := by
    by_cases h1 : b1 < a1 <;> by_cases h2 : a1 = b1 <;> by_cases h3 : a2.toInt < b2.toInt <;>
      simp [ReferenceIdeal.reducer_argmax_f32_i32, Ideal.cmpf_def, Ideal.cmp, IntOp.ori, IntOp.andi, IntOp.cmpi, Scalar.select, BitVec.slt, h1, h2, h3]
  rw [key]
  by_cases h1 : b1 < a1
  · rw [if_pos h1]
    exact ⟨Or.inl rfl, Beats.refl _, Or.inl h1⟩
  · rw [if_neg h1]
    by_cases h2 : a1 = b1 ∧ a2.toInt < b2.toInt
    · rw [if_pos h2, ← h2.1]
      exact ⟨Or.inl rfl, Beats.refl _, Or.inr ⟨rfl, h2.2.le⟩⟩
    · rw [if_neg h2]
      refine ⟨Or.inr rfl, ?_, Beats.refl _⟩
      rcases lt_or_eq_of_le (not_lt.1 h1) with h | h
      · exact Or.inl h
      · exact Or.inr ⟨h, not_lt.1 fun k => h2 ⟨h, k⟩⟩

/-- The fold over a list of pairs returns the first one or one of the list, and it beats them all. -/
theorem foldl_spec : ∀ (L : List (EReal × BitVec 32)) (a : EReal × BitVec 32),
    (L.foldl (ReferenceIdeal.reducer_argmax_f32_i32 (F := Ideal)) a = a ∨ L.foldl (ReferenceIdeal.reducer_argmax_f32_i32 (F := Ideal)) a ∈ L)
    ∧ Beats (L.foldl (ReferenceIdeal.reducer_argmax_f32_i32 (F := Ideal)) a) a
    ∧ ∀ q ∈ L, Beats (L.foldl (ReferenceIdeal.reducer_argmax_f32_i32 (F := Ideal)) a) q
  | [], a => ⟨Or.inl rfl, Beats.refl a, fun q hq => absurd hq List.not_mem_nil⟩
  | b :: L, a => by
    obtain ⟨h1, h2, h3⟩ := foldl_spec L (ReferenceIdeal.reducer_argmax_f32_i32 (F := Ideal) a b)
    obtain ⟨k1, k2, k3⟩ := reducer_spec a b
    rw [List.foldl_cons]
    refine ⟨?_, h2.trans k2, fun q hq => ?_⟩
    · rcases h1 with h1 | h1
      · rw [h1]
        rcases k1 with k1 | k1
        · exact Or.inl k1
        · exact Or.inr (List.mem_cons.2 (Or.inl k1))
      · exact Or.inr (List.mem_cons_of_mem _ h1)
    · rcases List.mem_cons.1 hq with rfl | hq
      · exact h2.trans k3
      · exact h3 q hq

/-- The reference's arg-max along a row of 2048 is the first place where the row is greatest. -/
theorem argmax_eq (g : FVec Ideal ReferenceIdeal.S16x2048 .f32) (c : FVec Ideal ReferenceIdeal.S_ .f32) (hc : ∀ i, c i = (⊥ : EReal))
    (h : ReferenceIdeal.S16x2048.ReducesTo [1] ReferenceIdeal.S16) (hu : 0 < ReferenceIdeal.S_.numel) (b : Fin 16) {p : Fin 2048}
    (hp : FirstMax (fun l => g (ix2 b l)) p) :
    (Host.argReduce (ReferenceIdeal.reducer_argmax_f32_i32 (F := Ideal)) g (iotaInDim ReferenceIdeal.S16x2048 32 1) c (constantI ReferenceIdeal.S_ 32 0#32) h hu (ix1 b)).2
      = BitVec.ofNat 32 p.val := by
  rw [Ideal.argReduce_eq_reduce2, Host.reduce2_eq_foldl_fiber]
  obtain ⟨h1, -, h3⟩ := foldl_spec (Host.argReduceFiber g (iotaInDim ReferenceIdeal.S16x2048 32 1) h (ix1 b))
    (c (Shape.Idx.first hu), constantI ReferenceIdeal.S_ 32 0#32 (Shape.Idx.first hu))
  have hval : ∀ x : Fin 2048, (BitVec.ofNat 32 x.val).toInt = (x.val : ℤ) := fun x =>
    StableHlo.Predicate.toInt_ofNat_small _ (by have := x.isLt; omega)
  have hmem : ∀ q, q ∈ Host.argReduceFiber g (iotaInDim ReferenceIdeal.S16x2048 32 1) h (ix1 b)
      ↔ ∃ l : Fin 2048, q = (g (ix2 b l), BitVec.ofNat 32 l.val) := by
    intro q
    unfold Host.argReduceFiber
    rw [List.mem_map]
    constructor
    · rintro ⟨n, hn, rfl⟩
      have := (List.mem_filter.1 hn).2
      obtain ⟨l, hl⟩ := (h.fiber_r2_a1 (ix1 b) _).1 (by simpa using this)
      refine ⟨l, ?_⟩
      rw [← hl]
      rfl
    · rintro ⟨l, rfl⟩
      refine ⟨ReferenceIdeal.S16x2048.rowMajor (ix2 b l), List.mem_filter.2 ⟨List.mem_finRange _, ?_⟩, ?_⟩
      · rw [Equiv.symm_apply_apply]
        simpa using (h.fiber_r2_a1 (ix1 b) (ix2 b l)).2 ⟨l, rfl⟩
      · rw [Equiv.symm_apply_apply]
        rfl
  have hb := h3 _ ((hmem _).2 ⟨p, rfl⟩)
  rcases h1 with h1 | h1
  · rw [h1] at hb ⊢
    rw [hc] at hb
    have h0 : p.val = 0 := by
      by_contra h0
      have hlt := hp.2 ⟨0, by omega⟩ (by rw [Fin.lt_def]; show 0 < p.val; omega)
      rcases hb with hb | ⟨hb, -⟩
      · exact absurd hb not_lt_bot
      · exact absurd (hlt.trans_eq hb) not_lt_bot
    rw [h0]
    rfl
  · obtain ⟨l, hl⟩ := (hmem _).1 h1
    rw [hl] at hb ⊢
    rcases hb with hb | ⟨hb, hk⟩
    · exact absurd hb (not_lt.2 (hp.1 l))
    · dsimp only at hb hk ⊢
      rw [hval, hval] at hk
      have : l = p := by
        rcases lt_or_eq_of_le (show l.val ≤ p.val by omega) with h' | h'
        · exact absurd hb (hp.2 l h').ne'
        · exact Fin.ext h'
      rw [this]

/-! Rows gathered at given numbers, and one column written. -/

/-- Dimension numbers of a gather of whole rows, batched over the leading axis. -/
def takeDims (A N C M : ℕ) (wf : GatherDims.WF ⟨3, ![A, N, C]⟩ ⟨3, ![A, M, 1]⟩ ⟨3, ![A, M, C]⟩ [2] [1] [0] [1] [0] 2 ![1, 1, C]) :
    GatherDims ⟨3, ![A, N, C]⟩ ⟨3, ![A, M, 1]⟩ ⟨3, ![A, M, C]⟩ where
  offsetDims := [2]
  collapsedSliceDims := [1]
  operandBatchingDims := [0]
  startIndicesBatchingDims := [0]
  startIndexMap := [1]
  indexVectorDim := 2
  sliceSizes := ![1, 1, C]
  wf := wf

/-- The row read is the one whose number the index holds, where that number is in range. -/
theorem take_at {α : Type} {A N C M : ℕ} (wf : GatherDims.WF ⟨3, ![A, N, C]⟩ ⟨3, ![A, M, 1]⟩ ⟨3, ![A, M, C]⟩ [2] [1] [0] [1] [0] 2 ![1, 1, C])
    (x : (⟨3, ![A, N, C]⟩ : Shape).Idx → α) (idx : IVec ⟨3, ![A, M, 1]⟩ 32) (a : Fin A) (m : Fin M) (c : Fin C) (p : Fin N)
    (hp : (idx (ix3 a m 0)).toInt = (p.val : ℤ)) :
    Host.gather (takeDims A N C M wf) x idx (ix3 a m c) = x (ix3 a p c) := by
  unfold Host.gather
  congr 1
  funext q
  refine Fin.ext ?_
  show (takeDims A N C M wf).start (ix3 a m c) idx q + (takeDims A N C M wf).batchCoord (ix3 a m c) q
      + (takeDims A N C M wf).offCoord (ix3 a m c) q = _
  have hk : (takeDims A N C M wf).sKept = [2] := rfl
  match q with
  | ⟨0, _⟩ =>
    rw [GatherDims.start_batching _ _ _ _ (List.mem_singleton.2 rfl), GatherDims.offCoord_eq_zero _ _ _ (by rw [hk]; simp)]
    simp only [zero_add, add_zero]
    rfl
  | ⟨1, _⟩ =>
    rw [GatherDims.batchCoord_eq_zero _ _ _ (by show _ ∉ [(0 : Fin 3)]; simp), GatherDims.offCoord_eq_zero _ _ _ (by rw [hk]; simp)]
    simp only [add_zero]
    unfold GatherDims.start
    rw [dif_pos (show (⟨1, _⟩ : Fin 3) ∈ (takeDims A N C M wf).startIndexMap from List.mem_singleton.2 rfl)]
    have hs : (takeDims A N C M wf).siIdx (ix3 a m c) ⟨(takeDims A N C M wf).startIndexMap.idxOf (1 : Fin 3), List.idxOf_lt_length_iff.2 (List.mem_singleton.2 rfl)⟩ = ix3 a m 0 := by
      funext b
      match b with
      | ⟨0, _⟩ => rfl
      | ⟨1, _⟩ => rfl
      | ⟨2, _⟩ => rfl
    show min (idx ((takeDims A N C M wf).siIdx (ix3 a m c) ⟨(takeDims A N C M wf).startIndexMap.idxOf (1 : Fin 3), List.idxOf_lt_length_iff.2 (List.mem_singleton.2 rfl)⟩)).toInt.toNat (N - 1) = p.val
    rw [hs, hp]
    have := p.isLt
    omega
  | ⟨2, _⟩ =>
    rw [GatherDims.batchCoord_eq_zero _ _ _ (by show _ ∉ [(0 : Fin 3)]; simp)]
    unfold GatherDims.start
    rw [dif_neg (by show _ ∉ [(1 : Fin 3)]; simp)]
    simp only [zero_add]
    rfl

end Cert.Picks

end
-- ==== Proof.Eq.Fps.lean ====
/- The kernel's farthest point sampling and the reference's select the same points: after every trip the two hold the same
   distances and the same next point, so the first results are equal. -/
module

public import proofs.«01_k».proof.Proof.Ker.Fps
public import proofs.«01_k».proof.Proof.Ref.Step
public import proofs.«01_k».proof.Proof.Eq.Picks

@[expose] public section

set_option maxRecDepth 16384

noncomputable section

namespace Cert.FpsEq

open Idealize.ShloMosaic
open Cert.Picks
open Cert.KernelIdeal (S16x1x2048 S16x2048 S16x1 S16x2048x3)
open Cert.KernelIdeal.Gen Cert.KernelIdeal.Fps

section
variable (x : FVec Ideal S16x2048x3 .f32)

/-- One coordinate of every point, as the kernel holds it. -/
abbrev coord (d : Fin 3) : Vec Ideal S16x1x2048 .f32 := fun i => x (ix3 (i 0) (i 2) d)

/-- The kernel's state after `n` trips. -/
def st (n : ℕ) : FVec Ideal S16x2048 .f32 × IVec S16x1 32 := state (coord x 0) (coord x 1) (coord x 2) n

theorem st_zero : st x 0 = (k0_pay4, k0_pay5) := rfl
theorem st_succ (n : ℕ) : st x (n + 1)
    = (k0_pay11 (coord x 0) (coord x 1) (coord x 2) (st x n).1 (st x n).2, k0_pay12 (coord x 0) (coord x 1) (coord x 2) (st x n).1 (st x n).2) := by
  unfold st
  rw [state]

/-- The distance of point `l` from point `p`, squared. -/
def sq (b : Fin 16) (p l : Fin 2048) : EReal :=
  (x (ix3 b l 0) - x (ix3 b p 0)) * (x (ix3 b l 0) - x (ix3 b p 0)) + (x (ix3 b l 1) - x (ix3 b p 1)) * (x (ix3 b l 1) - x (ix3 b p 1))
    + (x (ix3 b l 2) - x (ix3 b p 2)) * (x (ix3 b l 2) - x (ix3 b p 2))

/-- The kernel's new distances: the old one or the distance from the selected point, whichever is less. -/
theorem pay11_at (v9 : FVec Ideal S16x2048 .f32) (v10 : IVec S16x1 32) (b : Fin 16) (p l : Fin 2048)
    (hp : v10 (ix2 b 0) = BitVec.ofNat 32 p.val) :
    k0_pay11 (coord x 0) (coord x 1) (coord x 2) v9 v10 (ix2 b l) = min (v9 (ix2 b l)) (sq x b p l) := by
  pointwise [k0_pay11, k0_pay7, k0_pay8, k0_pay9, k0_pay6, k0_pay1, k0_pay2, k0_pay3]
  rw [hp, sum_pick, sum_pick, sum_pick]
  rfl

/-- The kernel's next point: the first at the greatest new distance. -/
theorem pay12_at (v0 v2 v4 : Vec Ideal S16x1x2048 .f32) (v9 : FVec Ideal S16x2048 .f32) (v10 : IVec S16x1 32) (b : Fin 16) (p : Fin 2048)
    (hp : FirstMax (fun l => k0_pay11 v0 v2 v4 v9 v10 (ix2 b l)) p) :
    k0_pay12 v0 v2 v4 v9 v10 (ix2 b 0) = BitVec.ofNat 32 p.val := by
  unfold k0_pay12
  generalize k0_pay11 v0 v2 v4 v9 v10 = f at hp ⊢
  pointwise []
  rw [fold_max_eq hp.1]
  exact fold_minsi_eq hp

/-- The row the kernel stores: the coordinates of the point selected. -/
theorem pay10_at (v10 : IVec S16x1 32) (b : Fin 16) (p : Fin 2048) (d : Fin 3) (hp : v10 (ix2 b 0) = BitVec.ofNat 32 p.val) :
    k0_pay10 (coord x 0) (coord x 1) (coord x 2) v10 (ix3 b 0 d) = x (ix3 b p d) := by
  pointwise [k0_pay10, k0_pay7, k0_pay8, k0_pay9, k0_pay6, k0_pay1, k0_pay2, k0_pay3]
  rw [hp, sum_pick, sum_pick, sum_pick]
  fin_cases d <;> rfl

end

section
open Cert.ReferenceIdeal (S16x512)
open Cert.ReferenceIdeal.Gen Cert.ReferenceIdeal.Step

variable (j : ℕ) (s : Cert.ReferenceIdeal.Step.State Ideal)

/-- The signed value of a number below 2048. -/
theorem toInt_lt (p : Fin 2048) : (BitVec.ofNat 32 p.val).toInt = (p.val : ℤ) :=
  StableHlo.Predicate.toInt_ofNat_small _ (by have := p.isLt; omega)

/-- Counting from the end leaves a number that is not negative as it is. -/
theorem wrap_small (p : ℕ) (hp : p < 2 ^ 31) (n : BitVec 32) :
    Scalar.select (IntOp.cmpi CmpIPredicate.slt (BitVec.ofNat 32 p) 0#32) (IntOp.addi (BitVec.ofNat 32 p) n) (BitVec.ofNat 32 p)
      = BitVec.ofNat 32 p := by
  have h : ¬ (BitVec.ofNat 32 p).toInt < 0 := by
    rw [StableHlo.Predicate.toInt_ofNat_small _ hp]
    omega
  simp [Scalar.select, IntOp.cmpi, BitVec.slt, decide_eq_false h]

/-- The coordinates the reference reads for the selected point. -/
theorem b18_at (b : Fin 16) (p : Fin 2048) (d : Fin 3) (hp : s.main_v5_5 (ix1 b) = BitVec.ofNat 32 p.val) :
    b18 j s (ix3 b 0 d) = s.main_v5_0 (ix3 b p d) := by
  refine take_at _ s.main_v5_0 (b17 j s) b 0 d p ?_
  have e : b17 j s (ix3 b 0 0) = BitVec.ofNat 32 p.val := by
    pointwise [b17, b16, b15, b14, b13, b12, b11, b10]
    rw [hp]
    exact wrap_small _ (by have := p.isLt; omega) _
  rw [e, toInt_lt]

/-- The reference's new distances. -/
theorem b24_at (b : Fin 16) (p l : Fin 2048) (hp : s.main_v5_5 (ix1 b) = BitVec.ofNat 32 p.val) :
    b24 j s (ix2 b l) = min (s.main_v5_4 (ix2 b l)) (sq s.main_v5_0 b p l) := by
  pointwise [b24, b23, b22, b21, b20, b19]
  rw [Fin.sum_univ_three, b18_at j s b p 0 hp, b18_at j s b p 1 hp, b18_at j s b p 2 hp]
  rfl

/-- The reference's next point. -/
theorem b29_at (b : Fin 16) (p : Fin 2048) (hp : FirstMax (fun l => b24 j s (ix2 b l)) p) :
    b29 j s (ix1 b) = BitVec.ofNat 32 p.val :=
  argmax_eq (b24 j s) (b26 j s) (fun i => by pointwise [b26]; exact negInf) _ _ b hp

/-- The reference's write of the selected points into column `j`. -/
theorem b9_at (hj : j < 512) (b : Fin 16) (r : Fin 512) :
    b9 j s (ix2 b r) = if r.val = j then s.main_v5_5 (ix1 b) else s.main_v5_3 (ix2 b r) := by
  have hv : (BitVec.ofNat 32 j).toInt = (j : ℤ) := StableHlo.Predicate.toInt_ofNat_small _ (by omega)
  have e : b8 j s (ix1 0) = BitVec.ofNat 32 j := by
    pointwise [b8, b7, b6, b5, b4, b3, b2]
    exact wrap_small j (by omega) _
  have := Routing.scatter_col_signed Cert.ReferenceIdeal.scatter_S16x512_S1_S16_0_1_1_0 rfl rfl s.main_v5_3 (b8 j s) s.main_v5_5 ⟨j, hj⟩ (by rw [← hv, ← e]; rfl) b r
  rw [show b9 j s (ix2 b r) = _ from this]
  simp only [Fin.ext_iff]
  rfl

/-- What the two programs hold after `n` trips of their loops: the same distances, the same next point, and in the
    reference's table the points selected so far. -/
structure Same (x : FVec Ideal S16x2048x3 .f32) (s : Cert.ReferenceIdeal.Step.State Ideal) (n : ℕ) : Prop where
  dist : ∀ b l, s.main_v5_4 (ix2 b l) = (st x n).1 (ix2 b l)
  next : ∀ b, s.main_v5_5 (ix1 b) = (st x n).2 (ix2 b 0)
  point : ∀ b, ∃ p : Fin 2048, (st x n).2 (ix2 b 0) = BitVec.ofNat 32 p.val
  xyz : s.main_v5_0 = x
  past : ∀ b (r : Fin 512), r.val < n → s.main_v5_3 (ix2 b r) = (st x r.val).2 (ix2 b 0)

theorem same_init (x : FVec Ideal S16x2048x3 .f32) : Same x (init x) 0 where
  dist b l := by
    show K_main_v3 (F := Ideal) (ix2 b l) = k0_pay4 (F := Ideal) (ix2 b l)
    pointwise [K_main_v3, K_main_v2, K_main_v1, K_main_cst, K_main_cst_0, k0_pay4]
  next b := rfl
  point b := ⟨0, rfl⟩
  xyz := rfl
  past b r h := absurd h (Nat.not_lt_zero _)

theorem same_step (x : FVec Ideal S16x2048x3 .f32) (n : ℕ) (hn : n < 512) (h : Same x s n) : Same x (step n s) (n + 1) := by
  have hd : ∀ b l, b24 n s (ix2 b l) = (st x (n + 1)).1 (ix2 b l) := by
    intro b l
    obtain ⟨p, hp⟩ := h.point b
    rw [b24_at n s b p l ((h.next b).trans hp), h.dist, h.xyz]
    rw [st_succ]
    dsimp only
    rw [pay11_at x _ _ b p l hp]
  have hq : ∀ b, ∃ p : Fin 2048, (st x (n + 1)).2 (ix2 b 0) = BitVec.ofNat 32 p.val ∧ b29 n s (ix1 b) = BitVec.ofNat 32 p.val := by
    intro b
    obtain ⟨p, hp⟩ := exists_firstMax fun l => (st x (n + 1)).1 (ix2 b l)
    refine ⟨p, ?_, b29_at n s b p ?_⟩
    · rw [st_succ] at hp
      rw [st_succ]
      dsimp only at hp ⊢
      exact pay12_at _ _ _ _ _ b p hp
    rw [show (fun l => b24 n s (ix2 b l)) = fun l => (st x (n + 1)).1 (ix2 b l) from funext (hd b)]
    exact hp
  refine ⟨fun b l => ?_, fun b => ?_, fun b => ?_, h.xyz, fun b r hr => ?_⟩
  · rw [step_main_v5_4]
    exact hd b l
  · rw [step_main_v5_5]
    obtain ⟨p, hp, hp'⟩ := hq b
    rw [hp, hp']
  · obtain ⟨p, hp, -⟩ := hq b
    exact ⟨p, hp⟩
  · rw [step_main_v5_3, b9_at n s hn]
    split
    · rename_i e
      rw [e]
      exact h.next b
    · exact h.past b r (by omega)

/-- The reference's loop, `n` trips of it. -/
def iter (x : FVec Ideal S16x2048x3 .f32) : ℕ → Cert.ReferenceIdeal.Step.State Ideal
  | 0 => init x
  | n + 1 => step n (iter x n)

theorem same (x : FVec Ideal S16x2048x3 .f32) : ∀ n, n ≤ 512 → Same x (iter x n) n
  | 0, _ => same_init x
  | n + 1, h => same_step _ x n h (same x n (Nat.le_of_succ_le h))

/-- The first results are equal: the kernel's rows are the reference's gathered rows. -/
theorem rows_eq (x : FVec Ideal S16x2048x3 .f32) (h : Same x s 512) :
    rows (coord x 0) (coord x 1) (coord x 2) = R_main_v7 s x := by
  funext i
  obtain ⟨b, r, d, rfl⟩ : ∃ (b : Fin 16) (r : Fin 512) (d : Fin 3), i = ix3 b r d := ⟨i 0, i 1, i 2, eq_ix3 i⟩
  have hr : r.val ≤ 512 := r.isLt.le
  obtain ⟨p, hp⟩ := (same x r.val hr).point b
  have hc : s.main_v5_3 (ix2 b r) = BitVec.ofNat 32 p.val := (h.past b r r.isLt).trans hp
  refine (pay10_at x (st x r.val).2 b p d hp).trans ?_
  unfold R_main_v7
  refine (take_at _ x _ b r d p ?_).symm
  rw [← toInt_lt p]
  congr 1
  pointwise []
  rw [hc]
  exact wrap_small _ (by have := p.isLt; omega) _

end
end Cert.FpsEq

end
-- ==== Proof.Ker.Mlp.lean ====
/- The kernel's second region at the extended reals: every point's score, which is the greatest channel of the three layers
   over the point's coordinates and features. -/
module

public import proofs.«01_k».proof.Proof.Ker.Fps
public import Idealize.ShloMosaic.Lib.Pointwise

@[expose] public section

set_option maxRecDepth 16384

noncomputable section

namespace Cert.KernelIdeal.Mlp

open Idealize.ShloMosaic Cert.KernelIdeal Cert.KernelIdeal.Gen

/-- The three layers over one point's coordinates `p` and features `f`, and the greatest of the last layer's channels. -/
def score (p : Fin 3 → EReal) (f : Fin 16 → EReal) (W1 : Vec Ideal S19x64 .f32) (b1 : Vec Ideal S64 .f32) (W2 : Vec Ideal S64x128 .f32)
    (b2 : Vec Ideal S128 .f32) (W3 : Vec Ideal S128x128 .f32) (b3 : Vec Ideal S128 .f32) : EReal :=
  Finset.fold max (Ideal.ofBits FTy.f32 4286578688#32) (fun e : Fin 128 =>
    ∑ k : Fin 128, max (∑ j : Fin 64, max (∑ i : Fin 3, p i * W1 (ix2 ⟨i.val, by omega⟩ j) + ∑ i : Fin 16, f i * W1 (ix2 ⟨3 + i.val, by omega⟩ j)
      + b1 (ix1 j)) 0 * W2 (ix2 j k) + b2 (ix1 k)) 0 * W3 (ix2 k e) + b3 (ix1 e)) Finset.univ

/-- The score of point `q` of batch entry `b`. -/
def scoreAt (x0 : Vec Ideal S16x2048x3 .f32) (x1 : Vec Ideal S16x2048x16 .f32) (W1 : Vec Ideal S19x64 .f32) (b1 : Vec Ideal S64 .f32)
    (W2 : Vec Ideal S64x128 .f32) (b2 : Vec Ideal S128 .f32) (W3 : Vec Ideal S128x128 .f32) (b3 : Vec Ideal S128 .f32) (b : Fin 16) (q : Fin 2048) : EReal :=
  score (fun d => x0 (ix3 b q d)) (fun d => x1 (ix3 b q d)) W1 b1 W2 b2 W3 b3

/-- The body's arithmetic at row `r`, of a block of points `x` whose row `r` is `p` followed by `f`. -/
theorem pay_at (x : Vec Ideal S2048x19 .f32) (W1 : Vec Ideal S19x64 .f32) (c1 : Vec Ideal S1x64 .f32) (W2 : Vec Ideal S64x128 .f32)
    (c2 : Vec Ideal S1x128 .f32) (W3 : Vec Ideal S128x128 .f32) (c3 : Vec Ideal S1x128 .f32) (b1 : Vec Ideal S64 .f32) (b2 b3 : Vec Ideal S128 .f32)
    (h1 : ∀ j, c1 (ix2 0 j) = b1 (ix1 j)) (h2 : ∀ j, c2 (ix2 0 j) = b2 (ix1 j)) (h3 : ∀ j, c3 (ix2 0 j) = b3 (ix1 j))
    (p : Fin 3 → EReal) (f : Fin 16 → EReal) (r : Fin 2048)
    (hp : ∀ i : Fin 3, x (ix2 r ⟨i.val, by omega⟩) = p i) (hf : ∀ i : Fin 16, x (ix2 r ⟨3 + i.val, by omega⟩) = f i) :
    k1_pay1 x W1 c1 W2 c2 W3 c3 (ix2 r 0) = score p f W1 b1 W2 b2 W3 b3 := by
  pointwise [k1_pay1]
  have hs : ∀ j : Fin 64, ∑ i : Fin 19, x (ix2 r i) * W1 (ix2 i j)
      = ∑ i : Fin 3, p i * W1 (ix2 ⟨i.val, by omega⟩ j) + ∑ i : Fin 16, f i * W1 (ix2 ⟨3 + i.val, by omega⟩ j) := by
    intro j
    refine (Fin.sum_univ_add (a := 3) (b := 16) (fun i : Fin 19 => (x (ix2 r i) : EReal) * W1 (ix2 i j))).trans ?_
    refine congr (congrArg _ (Finset.sum_congr rfl fun i _ => ?_)) (Finset.sum_congr rfl fun i _ => ?_)
    · rw [← hp i]; rfl
    · rw [← hf i]; rfl
  simp only [hs, h1, h2, h3]
  rfl

section
variable (m : (ℓ : Loc nD τ sig) → Buf (Elt Ideal) ℓ) (ρ : Dev nD → PrngReg)

theorem W2_arg (c : Dev nD) (a : Ref sig .tc) (ha : a ∈ argRefs) : W2 m ρ c (Proc.tc.devRef a) = m (c.tc.loc a) := W2_args m ρ c a ha

theorem W3_arg (c : Dev nD) (a : Ref sig .tc) (ha : a ∈ argRefs) : V3 m ρ c a = m (c.tc.loc a) := W3_args m ρ c a ha

theorem entry_v3 (c : Dev nD) (b : Fin 16) (q : Fin 2048) (j : Fin 19) :
    V3 m ρ c main_v3 (ix2 ⟨b.val * 2048 + q.val, by omega⟩ j)
      = if h : j.val < 3 then m (c.tc.loc main_arg0) (ix3 b q ⟨j.val, h⟩)
        else m (c.tc.loc main_arg1) (ix3 b q ⟨j.val - 3, by omega⟩) := by
  show StableHlo.after hostOps1 (W2 m ρ c) (Proc.devRef .tc main_v3) _ = _
  entry_read
  pointwise
  rw [W2_arg m ρ c main_arg0 (by decide), W2_arg m ρ c main_arg1 (by decide)]

theorem entry_v4 (c : Dev nD) (j : Fin 64) : V3 m ρ c main_v4 (ix2 0 j) = m (c.tc.loc main_arg3) (ix1 j) := by
  show StableHlo.after hostOps1 (W2 m ρ c) (Proc.devRef .tc main_v4) _ = _
  entry_read
  pointwise
  rw [W2_arg m ρ c main_arg3 (by decide)]

theorem entry_v5 (c : Dev nD) (j : Fin 128) : V3 m ρ c main_v5 (ix2 0 j) = m (c.tc.loc main_arg5) (ix1 j) := by
  show StableHlo.after hostOps1 (W2 m ρ c) (Proc.devRef .tc main_v5) _ = _
  entry_read
  pointwise
  rw [W2_arg m ρ c main_arg5 (by decide)]

theorem entry_v6 (c : Dev nD) (j : Fin 128) : V3 m ρ c main_v6 (ix2 0 j) = m (c.tc.loc main_arg7) (ix1 j) := by
  show StableHlo.after hostOps1 (W2 m ρ c) (Proc.devRef .tc main_v6) _ = _
  entry_read
  pointwise
  rw [W2_arg m ρ c main_arg7 (by decide)]

theorem idx0 : ∀ t : Fin cfg1.N, win1_0.index t = ![t.val, 0] := (by decide +kernel : ∀ t : Fin grid1.N, _)
theorem idx1 : ∀ t : Fin cfg1.N, win1_1.index t = ![0, 0] := (by decide +kernel : ∀ t : Fin grid1.N, _)
theorem idx2 : ∀ t : Fin cfg1.N, win1_2.index t = ![0, 0] := (by decide +kernel : ∀ t : Fin grid1.N, _)
theorem idx3 : ∀ t : Fin cfg1.N, win1_3.index t = ![0, 0] := (by decide +kernel : ∀ t : Fin grid1.N, _)
theorem idx4 : ∀ t : Fin cfg1.N, win1_4.index t = ![0, 0] := (by decide +kernel : ∀ t : Fin grid1.N, _)
theorem idx5 : ∀ t : Fin cfg1.N, win1_5.index t = ![0, 0] := (by decide +kernel : ∀ t : Fin grid1.N, _)
theorem idx6 : ∀ t : Fin cfg1.N, win1_6.index t = ![0, 0] := (by decide +kernel : ∀ t : Fin grid1.N, _)
theorem idx7 : ∀ t : Fin cfg1.N, win1_7.index t = ![t.val, 0] := (by decide +kernel : ∀ t : Fin grid1.N, _)

/-- The scores, one row a point. -/
def scores (c : Dev nD) : Vec Ideal S32768x1 .f32 := fun j =>
  scoreAt (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    ⟨(j 0 : ℕ) / 2048, by have : (j 0 : ℕ) < 32768 := (j 0).isLt; omega⟩ ⟨(j 0 : ℕ) % 2048, Nat.mod_lt _ (by norm_num)⟩

/-- What the second region leaves in its output. -/
theorem final (c : Dev nD) : (dat1 (V3 m ρ) c).arrAt 7 cfg1.N = scores m c := by
  refine (dat1 (V3 m ρ) c).arrAt_eq_of_covers 7 _ (by decide +kernel) fun t _ y => ?_
  blk_simp
  rw [after1_7]
  frame_out
  have e0 : ∀ (r : Fin 2048) (j : Fin 19), iblk1 (V3 m ρ) c 0 t (ix2 r j) = V3 m ρ c main_v3 (ix2 ⟨t.val * 2048 + r.val, by have : t.val < 16 := t.isLt; omega⟩ j) := by
    intro r j; blk_ext [iblk1, idx0 t]
  have e1 : iblk1 (V3 m ρ) c 1 t = m (c.tc.loc main_arg2) := by
    refine Eq.trans (funext fun i => ?_) (W3_arg m ρ c main_arg2 (by decide)); blk_ext [iblk1, idx1 t]
  have e3 : iblk1 (V3 m ρ) c 3 t = m (c.tc.loc main_arg4) := by
    refine Eq.trans (funext fun i => ?_) (W3_arg m ρ c main_arg4 (by decide)); blk_ext [iblk1, idx3 t]
  have e5 : iblk1 (V3 m ρ) c 5 t = m (c.tc.loc main_arg6) := by
    refine Eq.trans (funext fun i => ?_) (W3_arg m ρ c main_arg6 (by decide)); blk_ext [iblk1, idx5 t]
  have e2 : ∀ j : Fin 64, iblk1 (V3 m ρ) c 2 t (ix2 0 j) = m (c.tc.loc main_arg3) (ix1 j) := by
    intro j; refine Eq.trans ?_ (entry_v4 m ρ c j); blk_ext [iblk1, idx2 t]
  have e4 : ∀ j : Fin 128, iblk1 (V3 m ρ) c 4 t (ix2 0 j) = m (c.tc.loc main_arg5) (ix1 j) := by
    intro j; refine Eq.trans ?_ (entry_v5 m ρ c j); blk_ext [iblk1, idx4 t]
  have e6 : ∀ j : Fin 128, iblk1 (V3 m ρ) c 6 t (ix2 0 j) = m (c.tc.loc main_arg7) (ix1 j) := by
    intro j; refine Eq.trans ?_ (entry_v6 m ρ c j); blk_ext [iblk1, idx6 t]
  have hv : ((((View.whole main_v7).slice (win1_7.rect t)).emb y) 0 : ℕ) = t.val * 2048 + (y 0 : ℕ) := by blk_point [idx7 t]
  generalize ((View.whole main_v7).slice (win1_7.rect t)).emb y = z at hv
  have hy : y = ix2 (y 0) 0 := by funext a; fin_cases a; rfl; exact Subsingleton.elim (α := Fin 1) _ _
  generalize (y 0 : Fin 2048) = r at hy hv
  subst hy
  have ht : t.val < 16 := t.isLt
  have hz : (z 0 : ℕ) / 2048 = t.val ∧ (z 0 : ℕ) % 2048 = r.val := by have : r.val < 2048 := r.isLt; omega
  have hs : scores m c z = scoreAt (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) ⟨t.val, ht⟩ r := by
    unfold scores; exact congr (congrArg _ (Fin.ext hz.1)) (Fin.ext hz.2)
  rw [hs, ← e1, ← e3, ← e5]
  refine pay_at _ _ _ _ _ _ _ _ _ _ e2 e4 e6 _ _ r (fun i => (e0 r _).trans ?_) (fun i => (e0 r _).trans ?_)
  · refine (entry_v3 m ρ c ⟨t.val, ht⟩ r _).trans ?_
    rw [dif_pos (by exact i.isLt)]
  · refine (entry_v3 m ρ c ⟨t.val, ht⟩ r _).trans ?_
    rw [dif_neg (by show ¬ 3 + i.val < 3; omega)]
    exact congrArg _ (congrArg (ix3 _ _) (Fin.ext (by show 3 + i.val - 3 = i.val; omega)))

/-- What the third region reads as its pool: the scores of the points of a batch entry. -/
theorem entry_v8 (c : Dev nD) (b : Fin 16) (q : Fin 2048) :
    V5 m ρ c main_v8 (ix3 b 0 q) = scores m c (ix2 ⟨b.val * 2048 + q.val, by omega⟩ 0) := by
  show StableHlo.after hostOps2 (W4 m ρ c) (Proc.devRef .tc main_v8) _ = _
  entry_read
  pointwise
  rw [← final m ρ c]
  exact congrFun (W4_arr m ρ c 7) _
end

end Cert.KernelIdeal.Mlp

end
-- ==== Proof.Eq.Order.lean ====
/- Taking the first greatest entry of a row over and over, striking out each one taken, yields the row's entries in the order
   of the stable descending sort. -/
module

public import proofs.«01_k».proof.Proof.Eq.Picks
public import Idealize.ShloMosaic.Lib.SortFacts

@[expose] public section

set_option maxRecDepth 16384

noncomputable section

namespace Cert.Order

open Idealize.ShloMosaic
open Cert.Picks

variable {n : ℕ} (g : Fin n → EReal)

/-- The sort's comparison: `a` comes before `b` where its entry is the greater. -/
def gt (a b : Fin n) : Bool := FloatOps.cmpfTotal (F := Ideal) (φ := .f32) .gt (g a) (g b) == 1#1

theorem gt_iff (a b : Fin n) : gt g a b = true ↔ g b < g a := by
  unfold gt
  rw [Ideal.cmpfTotal_def]
  by_cases h : g b < g a <;> simp [Ideal.cmp, CmpDirection.ordered, h]

/-- The order the stable sort makes: the greater entry first, of equal entries the one with the smaller number. -/
def Ahead (a b : Fin n) : Prop := g b < g a ∨ (g b = g a ∧ a < b)

theorem Ahead.le {g : Fin n → EReal} {a b : Fin n} (h : Ahead g a b) : g b ≤ g a := h.elim le_of_lt fun h => h.1.le

theorem insert_pairwise (a : Fin n) : ∀ l : List (Fin n), (∀ b ∈ l, a < b) → l.Pairwise (Ahead g) → (insertBefore (gt g) a l).Pairwise (Ahead g)
  | [], _, _ => List.pairwise_singleton _ _
  | b :: l, ha, hl => by
    rw [List.pairwise_cons] at hl
    unfold insertBefore
    split
    · rename_i h
      refine List.pairwise_cons.2 ⟨fun c hc => ?_, insert_pairwise a l (fun c hc => ha c (List.mem_cons_of_mem _ hc)) hl.2⟩
      rcases List.mem_cons.1 ((perm_insertBefore (gt g) a l).mem_iff.1 hc) with rfl | hc
      · exact Or.inl ((gt_iff g b c).1 h)
      · exact hl.1 c hc
    · rename_i h
      have hba : g b ≤ g a := not_lt.1 fun h' => h ((gt_iff g b a).2 h')
      refine List.pairwise_cons.2 ⟨fun c hc => ?_, List.pairwise_cons.2 hl⟩
      have hc' : g c ≤ g a := by
        rcases List.mem_cons.1 hc with rfl | hc
        · exact hba
        · exact (hl.1 c hc).le.trans hba
      exact (lt_or_eq_of_le hc').imp id fun e => ⟨e, ha c hc⟩

theorem sort_pairwise : ∀ l : List (Fin n), l.Pairwise (· < ·) → (stableSort (gt g) l).Pairwise (Ahead g)
  | [], _ => List.Pairwise.nil
  | a :: l, hl => by
    rw [List.pairwise_cons] at hl
    unfold stableSort
    exact insert_pairwise g a _ (fun b hb => hl.1 b ((perm_stableSort (gt g) l).mem_iff.1 hb)) (sort_pairwise l hl.2)

/-- Earlier places of the sorted row hold the entries that are ahead. -/
theorem sorted_ahead {i j : Fin n} (hij : i < j) : Ahead g (sortedFrom (gt g) i) (sortedFrom (gt g) j) := by
  have hp := List.pairwise_iff_get.1 (sort_pairwise g (List.finRange n) (List.pairwise_lt_finRange n))
  exact hp (i.cast (length_sortPositions n (gt g)).symm) (j.cast (length_sortPositions n (gt g)).symm) hij

variable [NeZero n]

/-- The first greatest entry. -/
def first : Fin n := Classical.choose (exists_firstMax g)

theorem first_spec : FirstMax g (first g) := Classical.choose_spec (exists_firstMax g)

/-- The row after `k` entries have been struck out. -/
def left : ℕ → Fin n → EReal
  | 0 => g
  | k + 1 => Function.update (left k) (first (left k)) ⊥

theorem left_succ (k : ℕ) : left g (k + 1) = Function.update (left g k) (first (left g k)) ⊥ := rfl

/-- What is left after `k` strikes: the row without the first `k` entries of its sorted order; and the next entry taken. -/
theorem left_eq (hg : ∀ j, g j ≠ ⊥) : ∀ k, (hk : k < n) →
    (∀ j, left g k (sortedFrom (gt g) j) = if j.val < k then ⊥ else g (sortedFrom (gt g) j)) ∧ first (left g k) = sortedFrom (gt g) ⟨k, hk⟩ := by
  have inj := sortedFrom_injective (gt g)
  have take : ∀ k, (hk : k < n) → (∀ j, left g k (sortedFrom (gt g) j) = if j.val < k then ⊥ else g (sortedFrom (gt g) j)) →
      first (left g k) = sortedFrom (gt g) ⟨k, hk⟩ := by
    intro k hk h
    have hv : left g k (sortedFrom (gt g) ⟨k, hk⟩) = g (sortedFrom (gt g) ⟨k, hk⟩) := by rw [h, if_neg (lt_irrefl k)]
    refine (first_spec _).eq ⟨fun l => ?_, fun l hl => ?_⟩
    · obtain ⟨j, rfl⟩ := sortedFrom_surjective (gt g) l
      rw [hv, h]
      split
      · exact bot_le
      · rename_i hj
        rcases (not_lt.1 hj).eq_or_lt with e | e
        · rw [show j = ⟨k, hk⟩ from Fin.ext e.symm]
        · exact (sorted_ahead g (show (⟨k, hk⟩ : Fin n) < j from e)).le
    · obtain ⟨j, rfl⟩ := sortedFrom_surjective (gt g) l
      rw [hv, h]
      split
      · exact bot_lt_iff_ne_bot.2 (hg _)
      · rename_i hj
        rcases (not_lt.1 hj).eq_or_lt with e | e
        · exact absurd hl (by rw [show j = ⟨k, hk⟩ from Fin.ext e.symm]; exact lt_irrefl _)
        · rcases sorted_ahead g (show (⟨k, hk⟩ : Fin n) < j from e) with h' | h'
          · exact h'
          · exact absurd hl (not_lt.2 h'.2.le)
  intro k
  induction k with
  | zero => exact fun hk => ⟨fun j => by rw [if_neg (Nat.not_lt_zero _)]; rfl, take 0 hk fun j => by rw [if_neg (Nat.not_lt_zero _)]; rfl⟩
  | succ k ih =>
    intro hk
    obtain ⟨h, e⟩ := ih (Nat.lt_of_succ_lt hk)
    have h' : ∀ j, left g (k + 1) (sortedFrom (gt g) j) = if j.val < k + 1 then ⊥ else g (sortedFrom (gt g) j) := by
      intro j
      rw [left_succ, e]
      by_cases hj : j = ⟨k, Nat.lt_of_succ_lt hk⟩
      · subst hj
        rw [Function.update_self, if_pos (Nat.lt_succ_self k)]
      · rw [Function.update_of_ne (fun e => hj (inj e)), h]
        have : j.val ≠ k := fun e => hj (Fin.ext e)
        by_cases h2 : j.val < k
        · rw [if_pos h2, if_pos (by omega)]
        · rw [if_neg h2, if_neg (by omega)]
    exact ⟨h', take _ hk h'⟩

/-- The entry taken after `k` strikes is the one the stable descending sort puts at place `k`. -/
theorem first_left (hg : ∀ j, g j ≠ ⊥) (k : Fin n) : first (left g k.val) = sortedFrom (gt g) k := (left_eq g hg k.val k.isLt).2

end Cert.Order

end
-- ==== Proof.Eq.Near.lean ====
/- The second result as the reference makes it: column `k` of row `i` is the score of the point that is `k`-th nearest to
   point `i`, nearest first and the smaller number first among equals. -/
module

public import proofs.«01_k».proof.Proof.Ref.Step
public import proofs.«01_k».proof.Proof.Ker.Mlp
public import proofs.«01_k».proof.Proof.Eq.Order
public import proofs.«01_k».proof.Proof.Eq.Fps
public import Idealize.ShloMosaic.Lib.Pointwise

@[expose] public section

set_option maxRecDepth 16384

noncomputable section

namespace Cert.Near

open Idealize.ShloMosaic
open Cert.Picks Cert.Order
open Cert.ReferenceIdeal Cert.ReferenceIdeal.Gen
open Cert.KernelIdeal.Mlp (score scoreAt)

/-- The squared distance of points `i` and `j`, as both programs write it: |i|² + |j|² − 2 i·j. -/
def dist (x : Vec Ideal S16x2048x3 .f32) (b : Fin 16) (i j : Fin 2048) : EReal :=
  ∑ d : Fin 3, x (ix3 b i d) * x (ix3 b i d) + ∑ d : Fin 3, x (ix3 b j d) * x (ix3 b j d)
    - Ideal.ofBits FTy.f32 1073741824#32 * ∑ d : Fin 3, x (ix3 b i d) * x (ix3 b j d)

/-- The number of the point that is `k`-th nearest to point `i`. -/
def near (x : Vec Ideal S16x2048x3 .f32) (b : Fin 16) (i : Fin 2048) (k : Fin 32) : Fin 2048 :=
  sortedFrom (gt fun j => -dist x b i j) ⟨k.val, by omega⟩

theorem near_eq (x : Vec Ideal S16x2048x3 .f32) (b : Fin 16) (i : Fin 2048) (k : Fin 32) :
    near x b i k = sortedFrom (gt fun j => -dist x b i j) ⟨k.val, by omega⟩ := rfl

/-- Every coordinate is finite. -/
def Finite (x : Vec Ideal S16x2048x3 .f32) : Prop := ∀ i, (x i : EReal) ≠ ⊤ ∧ (x i : EReal) ≠ ⊥

/-- Distances of points with finite coordinates are finite. -/
theorem dist_ne_top (x : Vec Ideal S16x2048x3 .f32) (hx : Finite x) (b : Fin 16) (i j : Fin 2048) :
    dist x b i j ≠ ⊤ := by
  have two : Ideal.ofBits FTy.f32 1073741824#32 = ((2 : ℝ) : EReal) := by
    simp [Ideal.ofBits, Ideal.ieee, -EReal.coe_mul]; norm_num
  have hy : ∀ k, (x k : EReal) = (((x k : EReal).toReal : ℝ) : EReal) := fun k => (EReal.coe_toReal (hx k).1 (hx k).2).symm
  unfold dist
  rw [two]
  simp only [Fin.sum_univ_three]
  rw [hy (ix3 b i 0), hy (ix3 b i 1), hy (ix3 b i 2), hy (ix3 b j 0), hy (ix3 b j 1), hy (ix3 b j 2)]
  simp only [← EReal.coe_mul, ← EReal.coe_add, ← EReal.coe_sub]
  exact EReal.coe_ne_top _

/-- A stable descending sort of each row that carries the places' numbers: what it puts at place `k` of a row. -/
theorem topk_at {A N M K : ℕ} (hK : K ≤ M) (X : Vec Ideal ⟨3, ![A, N, M]⟩ .f32)
    (h : (⟨3, ![A, N, M]⟩ : Shape).Slices (fun _ => 0) ⟨3, ![A, N, K]⟩) (b : Fin A) (i : Fin N) (k : Fin K) :
    (Host.topK ⟨3, ![A, N, K]⟩ 2 (FloatOps.cmpfTotal (F := Ideal) (φ := .f32) .gt) X h).2 (ix3 b i k)
      = BitVec.ofNat 32 (sortedFrom (gt fun j => X (ix3 b i j)) ⟨k.val, lt_of_lt_of_le k.isLt hK⟩).val := by
  have along : ∀ (p l : Fin M), Shape.Idx.along (s := ⟨3, ![A, N, M]⟩) (ix3 b i p) 2 l = ix3 b i l := by
    intro p l
    funext a
    fin_cases a <;> rfl
  have src : ∀ j : (⟨3, ![A, N, M]⟩ : Shape).Idx, j = ix3 b i ⟨k.val, lt_of_lt_of_le k.isLt hK⟩ →
      (Host.sort2 ⟨3, ![A, N, M]⟩ 2 (fun l r => FloatOps.cmpfTotal (F := Ideal) (φ := .f32) .gt l.1 r.1) X
        (fun i => if hd : 2 < (⟨3, ![A, N, M]⟩ : Shape).rank then iotaInDim ⟨3, ![A, N, M]⟩ 32 ⟨2, hd⟩ i else 0#32)).2 j
      = BitVec.ofNat 32 (sortedFrom (gt fun j => X (ix3 b i j)) ⟨k.val, lt_of_lt_of_le k.isLt hK⟩).val := by
    rintro j rfl
    unfold Host.sort2
    rw [dif_pos (Nat.lt_succ_self 2 : 2 < (⟨3, ![A, N, M]⟩ : Shape).rank)]
    dsimp only
    have hr : (fun p q : Fin M => FloatOps.cmpfTotal (F := Ideal) (φ := .f32) .gt
        (X (Shape.Idx.along (s := ⟨3, ![A, N, M]⟩) (ix3 b i ⟨k.val, lt_of_lt_of_le k.isLt hK⟩) 2 p))
        (X (Shape.Idx.along (s := ⟨3, ![A, N, M]⟩) (ix3 b i ⟨k.val, lt_of_lt_of_le k.isLt hK⟩) 2 q)) == 1#1) = gt fun j => X (ix3 b i j) := by
      funext p q; rw [along, along]; rfl
    rw [dif_pos (Nat.lt_succ_self 2 : 2 < (⟨3, ![A, N, M]⟩ : Shape).rank), ← hr]
    rfl
  refine src _ ?_
  funext a
  fin_cases a <;> exact Fin.ext (Nat.zero_add _)

theorem nearest_at (x : Vec Ideal S16x2048x3 .f32) (b : Fin 16) (i : Fin 2048) (k : Fin 32) :
    Step.nearest (F := Ideal) x (ix3 b ⟨i.val * 32 + k.val, by omega⟩ 0) = BitVec.ofNat 32 (near x b i k).val := by
  pointwise [Step.nearest]
  refine (topk_at (by norm_num) _ _ b i k).trans ?_
  refine congrArg (fun g => BitVec.ofNat 32 (sortedFrom (gt g) ⟨k.val, _⟩).val) (funext fun j => ?_)
  pointwise [dist]

theorem wrap_at (x : Vec Ideal S16x2048x3 .f32) (b : Fin 16) (i : Fin 2048) (k : Fin 32) :
    (Step.wrap (F := Ideal) (Step.nearest (F := Ideal) x) (ix3 b ⟨i.val * 32 + k.val, by omega⟩ 0)).toInt = ((near x b i k).val : ℤ) := by
  have hn := nearest_at x b i k
  generalize Step.nearest (F := Ideal) x = N at hn ⊢
  generalize near x b i k = p at hn ⊢
  pointwise [Step.wrap]
  rw [hn]
  rw [FpsEq.wrap_small p.val (by have := p.isLt; omega) _]
  exact FpsEq.toInt_lt p

/-- The second result, at one place. -/
theorem pooled_at (x0 : Vec Ideal S16x2048x3 .f32) (x1 : Vec Ideal S16x2048x16 .f32) (W1 : Vec Ideal S19x64 .f32) (b1 : Vec Ideal S64 .f32)
    (W2 : Vec Ideal S64x128 .f32) (b2 : Vec Ideal S128 .f32) (W3 : Vec Ideal S128x128 .f32) (b3 : Vec Ideal S128 .f32) (b : Fin 16) (i : Fin 2048) (k : Fin 32) :
    Step.pooled (F := Ideal) x0 x1 W1 b1 W2 b2 W3 b3 (ix3 b i k) = scoreAt x0 x1 W1 b1 W2 b2 W3 b3 b (near x0 b i k) := by
  have h0 : ∀ d : Fin 3, Host.gather gather_S16x2048x3_S16x65536x1_S16x65536x3_2_1_0_0_1_2_113 x0 (Step.wrap (F := Ideal) (Step.nearest (F := Ideal) x0)) (ix3 b ⟨i.val * 32 + k.val, by omega⟩ d) = x0 (ix3 b (near x0 b i k) d) :=
    fun d => take_at _ x0 _ b _ d _ (wrap_at x0 b i k)
  have h1 : ∀ d : Fin 16, Host.gather gather_S16x2048x16_S16x65536x1_S16x65536x16_2_1_0_0_1_2_1116 x1 (Step.wrap (F := Ideal) (Step.nearest (F := Ideal) x0)) (ix3 b ⟨i.val * 32 + k.val, by omega⟩ d) = x1 (ix3 b (near x0 b i k) d) :=
    fun d => take_at _ x1 _ b _ d _ (wrap_at x0 b i k)
  unfold Step.pooled
  generalize Host.gather gather_S16x2048x3_S16x65536x1_S16x65536x3_2_1_0_0_1_2_113 x0 _ = P at h0 ⊢
  generalize Host.gather gather_S16x2048x16_S16x65536x1_S16x65536x16_2_1_0_0_1_2_1116 x1 _ = Q at h1 ⊢
  pointwise [Step.mlp]
  simp only [h0, h1]
  rfl

end Cert.Near

end
-- ==== Proof.Ker.Topk.lean ====
/- The kernel's third region: the two scratch arrays after `n` trips of its loop, and the block the body leaves. -/
module

public import proofs.«01_k».proof.Proof.Gen.KernelIdeal.Frame
public import Idealize.ShloMosaic.Lib.Pipeline.ValueKit
public import Idealize.ShloMosaic.Lib.VecWindow

@[expose] public section

set_option maxRecDepth 16384

noncomputable section

namespace Cert.KernelIdeal.Topk

open Idealize.ShloMosaic Idealize.ShloMosaic.TcCoe Idealize.SL.Sem
open Cert.KernelIdeal Cert.KernelIdeal.Gen

variable {F : FTy → Type} [FloatOps F]

/-- The distances left and the columns filled after `n` trips, of the distances and the pool the loop starts from. -/
def state (d : Vec F S1024x2048 .f32) (pool : Vec F S1x1x2048 .f32) : ℕ → Vec F S1024x2048 .f32 × Vec F S1024x32 .f32
  | 0 => (d, k2_pay3)
  | n + 1 =>
    if h : n < k2_t1_loop.trips then
      (k2_pay5 (state d pool n).1, k2_pay6 pool ⟨n, h⟩ (state d pool n).1 (state d pool n).2)
    else state d pool n

theorem state_succ (d : Vec F S1024x2048 .f32) (pool : Vec F S1x1x2048 .f32) (k : Fin k2_t1_loop.trips) :
    state d pool (k.val + 1) = (k2_pay5 (state d pool k.val).1, k2_pay6 pool k (state d pool k.val).1 (state d pool k.val).2) := by
  rw [state]; exact dif_pos k.isLt

section
variable (𝒱 : Variants) (c : Dev nD) (bd : Option 𝒱.V) (i : grid2.Coords) (arg2 : Memref sig .tc .vmem S1x1024x3 .f32) (harg2 : arg2.IsWhole)
  (arg3 : Memref sig .tc .vmem S1x3x2048 .f32) (harg3 : arg3.IsWhole) (arg4 : Memref sig .tc .vmem S1x1x2048 .f32) (harg4 : arg4.IsWhole)
  (arg5 : Memref sig .tc .vmem S1x1024x32 .f32) (harg5 : arg5.IsWhole) (arg6 : Memref sig .tc .vmem S1024x2048 .f32) (harg6 : arg6.IsWhole)
  (arg7 : Memref sig .tc .vmem S1024x32 .f32) (harg7 : arg7.IsWhole) (pool : Vec F S1x1x2048 .f32)

/-- One trip stores the whole of each scratch array. -/
theorem trip_pcs (k : Fin k2_t1_loop.trips) (f6 : BufTy.Contents (Elt F) arg6.view.ty) (f7 : BufTy.Contents (Elt F) arg7.view.ty) :
    tripL_k2_t1 𝒱 c bd i arg2 harg2 arg3 harg3 arg4 harg4 arg5 harg5 arg6 harg6 arg7 harg7 pool k f6 f7
      = ([⟨Rect.unit (s := S1024x2048) ![0, 0] S1024x2048.size inb_S1024x2048_S1024x2048_0_0, k2_pay5 (arg6.view.read (Elt F) f6)⟩],
         [⟨Rect.unit (s := S1024x32) ![0, 0] S1024x32.size inb_S1024x32_S1024x32_0_0,
            k2_pay6 pool k (arg6.view.read (Elt F) f6) (arg7.view.read (Elt F) f7)⟩]) := by
  rw [← View.readAt_full arg6.view f6 inb_S1024x2048_S1024x2048_0_0, ← View.readAt_full arg7.view f7 inb_S1024x32_S1024x32_0_0]
  unfold tripL_k2_t1 trip_k2_t1
  rfl

/-- The scratch arrays before trip `n` are `state n`. -/
theorem pb_spec (d : Vec F S1024x2048 .f32) (G6 : BufTy.Contents (Elt F) arg6.view.ty) (G7 : BufTy.Contents (Elt F) arg7.view.ty)
    (h6 : arg6.view.read (Elt F) G6 = d) (h7 : arg7.view.read (Elt F) G7 = k2_pay3) : ∀ n, n ≤ k2_t1_loop.trips →
    arg6.view.read (Elt F) (arg6.view.writes (Elt F) G6 (pb_k2_t1 𝒱 c bd i arg2 harg2 arg3 harg3 arg4 harg4 arg5 harg5 arg6 harg6 arg7 harg7 pool G6 G7 n).1)
        = (state d pool n).1
    ∧ arg7.view.read (Elt F) (arg7.view.writes (Elt F) G7 (pb_k2_t1 𝒱 c bd i arg2 harg2 arg3 harg3 arg4 harg4 arg5 harg5 arg6 harg6 arg7 harg7 pool G6 G7 n).2)
        = (state d pool n).2
  | 0, _ => ⟨h6, h7⟩
  | n + 1, h => by
    obtain ⟨e6, e7⟩ := pb_spec d G6 G7 h6 h7 n (Nat.le_of_succ_le h)
    have e := pb_k2_t1_succ 𝒱 c bd i arg2 harg2 arg3 harg3 arg4 harg4 arg5 harg5 arg6 harg6 arg7 harg7 pool G6 G7 ⟨n, h⟩
    have es := state_succ d pool ⟨n, h⟩
    rw [trip_pcs] at e
    dsimp only at e es
    rw [e, es, e6, e7]
    simp only [List.cons_append, List.nil_append]
    exact ⟨View.read_writes_full _ _ inb_S1024x2048_S1024x2048_0_0 _ _, View.read_writes_full _ _ inb_S1024x32_S1024x32_0_0 _ _⟩

/-- What the body leaves in the output's staging buffer. -/
theorem out_eq (x0 : Vec F S1x1024x3 .f32) (x1 : Vec F S1x3x2048 .f32) (x2 : Vec F S1x1x2048 .f32) :
    out2_A_3 c i arg2 harg2 arg3 harg3 arg4 harg4 arg5 harg5 arg6 harg6 arg7 harg7 x0 x1 x2
      = k2_pay1 (state (k2_pay2 x0 x1) x2 k2_t1_loop.trips).2 := by
  unfold out2_A_3 kernelRun2_A
  dsimp only
  unfold kernelRun2_A.sl.v29 kernelRun2_A.sl.HS0_1 kernelRun2_A.sl.HS1_1
  rw [View.readAt_full, View.readAt_full, View.readAt_full, harg2.read_unread, harg3.read_unread, harg4.read_unread]
  refine (View.read_writes_full _ _ inb_S1x1024x32_S1x1024x32_0_0_0 _ _).trans ?_
  refine congrArg k2_pay1 ?_
  unfold View.readCov
  rw [View.readAt_full, View.writes_append]
  exact (pb_spec Variants.none c none i arg2 harg2 arg3 harg3 arg4 harg4 arg5 harg5 arg6 harg6 arg7 harg7 x2 _ _ _
    (View.read_writes_full _ _ inb_S1024x2048_S1024x2048_0_0 _ _) (View.read_writes_full _ _ inb_S1024x32_S1024x32_0_0 _ _) _ (le_refl _)).2
end

end Cert.KernelIdeal.Topk

end
-- ==== Proof.Eq.Topk.lean ====
/- The third region's loop, one row at a time: trip `k` takes the first least distance left, puts the pool's entry there into
   column `k`, and strikes the distance out. -/
module

public import proofs.«01_k».proof.Proof.Ker.Topk
public import proofs.«01_k».proof.Proof.Eq.Order
public import Idealize.ShloMosaic.Lib.Pointwise

@[expose] public section

set_option maxRecDepth 16384

noncomputable section

namespace Cert.TopkEq

open Idealize.ShloMosaic
open Cert.Picks Cert.Order
open Cert.KernelIdeal (S1024x2048 S1x1x2048 S1024x32 k2_t1_loop)
open Cert.KernelIdeal.Gen Cert.KernelIdeal.Topk

/-- The word of +∞ stands for +∞. -/
theorem posInf : Ideal.ofBits FTy.f32 2139095040#32 = (⊤ : EReal) := by simp [Ideal.ofBits, Ideal.ieee]

/-- The least value of a row, folded from +∞. -/
theorem fold_min_eq {n : ℕ} {f : Fin n → EReal} {p : Fin n} (hp : ∀ l, f p ≤ f l) :
    Finset.fold min (Ideal.ofBits FTy.f32 2139095040#32) f Finset.univ = f p := by
  rw [posInf]
  refine le_antisymm ((Finset.fold_min_le _).2 (Or.inr ⟨p, Finset.mem_univ _, le_rfl⟩)) ?_
  exact (Finset.le_fold_min _).2 ⟨le_top, fun l _ => hp l⟩

/-- The lane mask marks the first least distance of the row. -/
theorem pay4_at (d : Vec Ideal S1024x2048 .f32) (r : Fin 1024) (p : Fin 2048) (hp : FirstMax (fun l => -(d (ix2 r l) : EReal)) p) (j : Fin 2048) :
    k2_pay4 d (ix2 r j) = IntOp.cmpi CmpIPredicate.eq (BitVec.ofNat 32 j.val) (BitVec.ofNat 32 p.val) := by
  pointwise [k2_pay4]
  rw [fold_min_eq (p := p) (fun l => EReal.neg_le_neg_iff.1 (hp.1 l))]
  have h := fold_minsi_eq hp
  simp only [neg_inj] at h
  rw [h]

theorem cmpi_ofNat (j p : Fin 2048) :
    IntOp.cmpi CmpIPredicate.eq (BitVec.ofNat 32 j.val) (BitVec.ofNat 32 p.val) = if j = p then 1#1 else 0#1 := by
  by_cases h : j = p
  · subst h; simp [IntOp.cmpi]
  · have hne : BitVec.ofNat 32 j.val ≠ BitVec.ofNat 32 p.val := fun e => h (Fin.ext (by
      have := congrArg BitVec.toNat e
      simp only [BitVec.toNat_ofNat] at this
      have := j.isLt
      have := p.isLt
      omega))
    simp [IntOp.cmpi, beq_eq_false_iff_ne.2 hne, h]

theorem pay5_at (d : Vec Ideal S1024x2048 .f32) (r : Fin 1024) (p : Fin 2048) (hp : FirstMax (fun l => -(d (ix2 r l) : EReal)) p) (j : Fin 2048) :
    k2_pay5 d (ix2 r j) = if j = p then (⊤ : EReal) else d (ix2 r j) := by
  pointwise [k2_pay5]
  rw [pay4_at d r p hp, cmpi_ofNat, posInf]
  by_cases h : j = p <;> simp [Scalar.select, h]

theorem trips : k2_t1_loop.trips = 32 := by decide +kernel

theorem iv_eq (k : Fin k2_t1_loop.trips) : Scf.iv 0#32 1#32 k.val = BitVec.ofNat 32 k.val := by
  simp [Scf.iv]

theorem pay6_at (pool : Vec Ideal S1x1x2048 .f32) (k : Fin k2_t1_loop.trips) (d : Vec Ideal S1024x2048 .f32) (a : Vec Ideal S1024x32 .f32) (r : Fin 1024)
    (p : Fin 2048) (hp : FirstMax (fun l => -(d (ix2 r l) : EReal)) p) (e : Fin 32) :
    k2_pay6 pool k d a (ix2 r e) = if e.val = k.val then pool (ix3 0 0 p) else a (ix2 r e) := by
  have hk : k.val < 32 := lt_of_lt_of_eq k.isLt trips
  pointwise [k2_pay6]
  simp only [pay4_at d r p hp]
  rw [iv_eq, sum_pick p]
  have hc := cmpi_ofNat ⟨e.val, by omega⟩ ⟨k.val, by omega⟩
  dsimp only at hc
  rw [hc]
  by_cases h : e.val = k.val <;> simp [Scalar.select, h]

section
variable (d : Vec Ideal S1024x2048 .f32) (pool : Vec Ideal S1x1x2048 .f32) (r : Fin 1024)

/-- The row's distances negated, so that the nearest is the greatest. -/
abbrev row : Fin 2048 → EReal := fun l => -(d (ix2 r l) : EReal)

/-- After `n` trips: the row without the first `n` taken, and the first `n` columns filled. -/
theorem state_row : ∀ n, n ≤ 32 → (∀ j, -((state d pool n).1 (ix2 r j) : EReal) = left (row d r) n j)
    ∧ ∀ e : Fin 32, e.val < n → (state d pool n).2 (ix2 r e) = pool (ix3 0 0 (first (left (row d r) e.val)))
  | 0, _ => ⟨fun j => rfl, fun e he => absurd he (Nat.not_lt_zero _)⟩
  | n + 1, h => by
    obtain ⟨h1, h2⟩ := state_row n (Nat.le_of_succ_le h)
    have hp : FirstMax (fun l => -((state d pool n).1 (ix2 r l) : EReal)) (first (left (row d r) n)) := by
      rw [show (fun l => -((state d pool n).1 (ix2 r l) : EReal)) = left (row d r) n from funext h1]
      exact first_spec _
    have es := state_succ d pool ⟨n, by rw [trips]; omega⟩
    dsimp only at es
    rw [es]
    refine ⟨fun j => ?_, fun e he => ?_⟩
    · dsimp only
      rw [pay5_at _ r _ hp, left_succ]
      by_cases hj : j = first (left (row d r) n)
      · rw [if_pos hj, hj, Function.update_self]; rfl
      · rw [if_neg hj, Function.update_of_ne hj]; exact h1 j
    · dsimp only
      rw [pay6_at pool _ _ _ r _ hp]
      by_cases hc : e.val = n
      · rw [if_pos hc, hc]
      · rw [if_neg hc]; exact h2 e (by omega)

/-- Column `e` of the block: the pool's entry at the point that is `e`-th in the sorted order of the row, whose distances are `D`. -/
theorem out_row (D : Fin 2048 → EReal) (hD : ∀ j, d (ix2 r j) = D j) (hne : ∀ j, D j ≠ ⊤) (e : Fin 32) :
    (state d pool k2_t1_loop.trips).2 (ix2 r e) = pool (ix3 0 0 (sortedFrom (gt fun j => -D j) ⟨e.val, by omega⟩)) := by
  obtain rfl : (fun j => d (ix2 r j)) = D := funext hD
  rw [trips, (state_row d pool r 32 (le_refl _)).2 e e.isLt]
  refine congrArg (fun q => pool (ix3 0 0 q)) ?_
  exact first_left (row d r) (fun j h => hne j (by rwa [EReal.neg_eq_bot_iff] at h)) ⟨e.val, by omega⟩
end

end Cert.TopkEq

end
-- ==== Proof.Eq.Result2.lean ====
/- The second result as the kernel makes it: column `k` of row `i` is the score of the point that is `k`-th nearest to point
   `i`, when every coordinate is finite. -/
module

public import proofs.«01_k».proof.Proof.Eq.Near
public import proofs.«01_k».proof.Proof.Eq.Topk
public import proofs.«01_k».proof.Proof.Ker.Mlp

@[expose] public section

set_option maxRecDepth 16384

noncomputable section

namespace Cert.KernelIdeal.Result2

open Idealize.ShloMosaic Cert.KernelIdeal Cert.KernelIdeal.Gen
open Cert.Near Cert.TopkEq Cert.Order

section
variable (m : (ℓ : Loc nD τ sig) → Buf (Elt Ideal) ℓ) (ρ : Dev nD → PrngReg)

theorem idx0 : ∀ t : Fin cfg2.N, win2_0.index t = ![t.val / 2, t.val % 2, 0] := (by decide +kernel : ∀ t : Fin grid2.N, _)
theorem idx1 : ∀ t : Fin cfg2.N, win2_1.index t = ![t.val / 2, 0, 0] := (by decide +kernel : ∀ t : Fin grid2.N, _)
theorem idx2 : ∀ t : Fin cfg2.N, win2_2.index t = ![t.val / 2, 0, 0] := (by decide +kernel : ∀ t : Fin grid2.N, _)
theorem idx3 : ∀ t : Fin cfg2.N, win2_3.index t = ![t.val / 2, t.val % 2, 0] := (by decide +kernel : ∀ t : Fin grid2.N, _)

/-- The distances the body starts from, of blocks that hold the rows of `x` from `h * 1024` on and all its points. -/
theorem pay2_at (x : Vec Ideal S16x2048x3 .f32) (b : Fin 16) (h : Fin 2) (u : Vec Ideal S1x1024x3 .f32) (v : Vec Ideal S1x3x2048 .f32)
    (hu : ∀ (r : Fin 1024) (d : Fin 3), u (ix3 0 r d) = x (ix3 b ⟨h.val * 1024 + r.val, by omega⟩ d))
    (hv : ∀ (d : Fin 3) (j : Fin 2048), v (ix3 0 d j) = x (ix3 b j d)) (r : Fin 1024) (j : Fin 2048) :
    k2_pay2 u v (ix2 r j) = dist x b ⟨h.val * 1024 + r.val, by omega⟩ j := by
  pointwise [k2_pay2]
  simp only [hu, hv]
  rfl

/-- The third region's transposed points. -/
theorem entry_v0 (c : Dev nD) (b : Fin 16) (d : Fin 3) (j : Fin 2048) : V5 m ρ c main_v0 (ix3 b d j) = m (c.tc.loc main_arg0) (ix3 b j d) := by
  refine Eq.trans (congrFun ?_ (ix3 b d j)) (Fps.entry_v0 m ρ c (ix3 b d j))
  exact (W5_of m ρ c main_v0 (by decide)).trans <| (W4_of m ρ c main_v0 (by decide)).trans <| (W3_of m ρ c main_v0 (by decide)).trans
    (W2_of m ρ c main_v0 (by decide))

/-- The second result. -/
def result (c : Dev nD) : Vec Ideal S16x2048x32 .f32 := fun j =>
  Mlp.scoreAt (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (j 0) (near (m (c.tc.loc main_arg0)) (j 0) (j 1) (j 2))

/-- The second result at a place whose three coordinates are known. -/
theorem result_at (c : Dev nD) (z : S16x2048x32.Idx) (b : Fin 16) (i : Fin 2048) (e : Fin 32) (h0 : (z 0 : ℕ) = b.val) (h1 : (z 1 : ℕ) = i.val)
    (h2 : (z 2 : ℕ) = e.val) : result m c z =
      Mlp.scoreAt (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) b (near (m (c.tc.loc main_arg0)) b i e) := by
  unfold result
  rw [show z 0 = b from Fin.ext h0, show z 1 = i from Fin.ext h1, show z 2 = e from Fin.ext h2]

/-- The scores at the row of point `q` of batch entry `b`. -/
theorem scores_at (c : Dev nD) (b : Fin 16) (q : Fin 2048) : Mlp.scores m c (ix2 ⟨b.val * 2048 + q.val, by omega⟩ 0) =
      Mlp.scoreAt (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) b q := by
  unfold Mlp.scores
  refine congr (congrArg _ (Fin.ext ?_)) (Fin.ext ?_)
  · show (b.val * 2048 + q.val) / 2048 = b.val
    omega
  · show (b.val * 2048 + q.val) % 2048 = q.val
    omega

/-- What the third region leaves in its output. -/
theorem final (c : Dev nD) (hx : Finite (m (c.tc.loc main_arg0))) :
    (dat2 (V5 m ρ) c).arrAt 3 cfg2.N = result m c := by
  refine (dat2 (V5 m ρ) c).arrAt_eq_of_covers 3 _ (by decide +kernel) fun t _ y => ?_
  blk_simp
  rw [after2_3]
  unfold outsAt2
  rw [Topk.out_eq]
  have ht : t.val < 32 := t.isLt
  obtain ⟨b, hb⟩ : ∃ b : Fin 16, b.val = t.val / 2 := ⟨⟨t.val / 2, by omega⟩, rfl⟩
  obtain ⟨h, hh⟩ : ∃ h : Fin 2, h.val = t.val % 2 := ⟨⟨t.val % 2, by omega⟩, rfl⟩
  have e0 : ∀ (r : Fin 1024) (d : Fin 3), iblk2 (V5 m ρ) c 0 t (ix3 0 r d)
      = m (c.tc.loc main_arg0) (ix3 b ⟨h.val * 1024 + r.val, by omega⟩ d) := by
    intro r d
    refine Eq.trans ?_ (congrFun (W5_args m ρ c main_arg0 (by decide)) _)
    blk_ext [iblk2, idx0 t]
  have e1 : ∀ (d : Fin 3) (j : Fin 2048), iblk2 (V5 m ρ) c 1 t (ix3 0 d j) = m (c.tc.loc main_arg0) (ix3 b j d) := by
    intro d j
    refine Eq.trans ?_ (entry_v0 m ρ c _ d j)
    blk_ext [iblk2, idx1 t]
  have e2 : ∀ q : Fin 2048, iblk2 (V5 m ρ) c 2 t (ix3 0 0 q) = Mlp.scores m c (ix2 ⟨b.val * 2048 + q.val, by omega⟩ 0) := by
    intro q
    refine Eq.trans ?_ (Mlp.entry_v8 m ρ c b q)
    blk_ext [iblk2, idx2 t]
  have hv0 : ((((View.whole main_v9).slice (win2_3.rect t)).emb y) 0 : ℕ) = t.val / 2 + (y 0 : ℕ) := by blk_point [idx3 t]
  have hv1 : ((((View.whole main_v9).slice (win2_3.rect t)).emb y) 1 : ℕ) = t.val % 2 * 1024 + (y 1 : ℕ) := by blk_point [idx3 t]
  have hv2 : ((((View.whole main_v9).slice (win2_3.rect t)).emb y) 2 : ℕ) = (y 2 : ℕ) := by blk_point [idx3 t]
  generalize ((View.whole main_v9).slice (win2_3.rect t)).emb y = z at hv0 hv1 hv2
  obtain ⟨r, hr⟩ : ∃ r : Fin 1024, r = y 1 := ⟨_, rfl⟩
  obtain ⟨e, he⟩ : ∃ e : Fin 32, e = y 2 := ⟨_, rfl⟩
  have hy0 : (y 0 : ℕ) < 1 := (y 0).isLt
  have hy : y = ix3 0 r e := by
    rw [hr, he]; funext a; fin_cases a; exact Subsingleton.elim (α := Fin 1) _ _; rfl; rfl
  rw [← hr, ← hh] at hv1
  rw [← he] at hv2
  rw [hy]
  have hp : ∀ v : Vec Ideal S1024x32 .f32, k2_pay1 v (ix3 0 r e) = v (ix2 r e) := by intro v; pointwise [k2_pay1]
  have hd : ∀ j : Fin 2048, k2_pay2 (iblk2 (V5 m ρ) c 0 t) (iblk2 (V5 m ρ) c 1 t) (ix2 r j)
      = dist (m (c.tc.loc main_arg0)) b ⟨h.val * 1024 + r.val, by omega⟩ j :=
    fun j => pay2_at (m (c.tc.loc main_arg0)) b h _ _ e0 e1 r j
  have ho := out_row (k2_pay2 (iblk2 (V5 m ρ) c 0 t) (iblk2 (V5 m ρ) c 1 t)) (iblk2 (V5 m ρ) c 2 t) r
    (dist (m (c.tc.loc main_arg0)) b ⟨h.val * 1024 + r.val, by omega⟩) hd (dist_ne_top _ hx _ _) e
  rw [← near_eq, e2, scores_at] at ho
  refine (hp _).trans (ho.trans ?_)
  exact (result_at m c z b ⟨h.val * 1024 + r.val, by omega⟩ e (by omega) hv1 hv2).symm
end

end Cert.KernelIdeal.Result2

end
-- ==== Proof.lean ====
/- The claims, assembled: the kernel's run and the reference's run end at the same two results. -/
module

public import proofs.«01_k».proof.Defs
public import proofs.«01_k».proof.Proof.Gen.Kernel.Frame
public import proofs.«01_k».proof.Proof.Gen.KernelIdeal.Frame
public import proofs.«01_k».proof.Proof.Ker.Run
public import proofs.«01_k».proof.Proof.Ker.Fps
public import proofs.«01_k».proof.Proof.Ref.StepRun
public import proofs.«01_k».proof.Proof.Eq.Fps
public import proofs.«01_k».proof.Proof.Eq.Near
public import proofs.«01_k».proof.Proof.Eq.Result2
public import proofs.«01_k».proof.Proof.Eq.Topk
public import Idealize.ShloMosaic.Lib.Quiescent

@[expose] public section

set_option maxRecDepth 16384

noncomputable section

namespace Cert.Proof

open Idealize.ShloMosaic Idealize.SL.Sem

/-- The one side condition the precondition's text states: a scalar broadcasts to every shape. -/
instance finiteFacts : Cert.Pre_finite_xyz.Facts := ⟨by decide⟩

/-- Where the precondition is all ones, every coordinate is a real number: neither infinity. -/
theorem finite_of_pre (x : Vec Ideal KernelIdeal.S16x2048x3 .f32)
    (h : cmpf (F := Ideal) .olt (Host.absf x)
      (broadcastInDim KernelIdeal.S16x2048x3 ![] finiteFacts.bcast_S_S16x2048x3 (constant Cert.Pre_finite_xyz.S_ .f32 0x7F800000#32)) = fun _ => 1#1) :
    Near.Finite x := by
  intro i
  have e := congrFun h i
  pointwise at e
  rw [TopkEq.posInf] at e
  have l : max (x i : EReal) (-(x i : EReal)) < ⊤ := by
    by_contra hn
    have e' : BitVec.ofBool (decide (max (x i : EReal) (-(x i : EReal)) < ⊤)) = 1#1 := e
    rw [decide_eq_false hn] at e'
    exact absurd e' (by decide)
  constructor <;> intro hi <;> rw [hi] at l <;> simp at l

/-- The reference's first result is the kernel's: the sampled points. -/
theorem sampled_eq (x : Vec Ideal KernelIdeal.S16x2048x3 .f32) :
    ReferenceIdeal.Step.R_main_v7 (FpsEq.iter x 512) x = KernelIdeal.Fps.rows (FpsEq.coord x 0) (FpsEq.coord x 1) (FpsEq.coord x 2) :=
  (FpsEq.rows_eq _ x (FpsEq.same x 512 le_rfl)).symm

/-- The reference's second result is the scores of the nearest points. -/
theorem pooled_eq (x0 : Vec Ideal KernelIdeal.S16x2048x3 .f32) (x1 : Vec Ideal KernelIdeal.S16x2048x16 .f32) (W1 : Vec Ideal KernelIdeal.S19x64 .f32)
    (b1 : Vec Ideal KernelIdeal.S64 .f32) (W2 : Vec Ideal KernelIdeal.S64x128 .f32) (b2 : Vec Ideal KernelIdeal.S128 .f32)
    (W3 : Vec Ideal KernelIdeal.S128x128 .f32) (b3 : Vec Ideal KernelIdeal.S128 .f32) :
    ReferenceIdeal.Step.pooled (F := Ideal) x0 x1 W1 b1 W2 b2 W3 b3
      = fun j : KernelIdeal.S16x2048x32.Idx => KernelIdeal.Mlp.scoreAt x0 x1 W1 b1 W2 b2 W3 b3 (j 0) (Near.near x0 (j 0) (j 1) (j 2)) := by
  funext j
  refine Eq.trans (congrArg _ ?_) (Near.pooled_at x0 x1 W1 b1 W2 b2 W3 b3 (j 0) (j 1) (j 2))
  funext d
  fin_cases d <;> rfl

/-- The reference runs, its arguments end unchanged, and it has no counter to leave raised. -/
theorem reference_frame : Cert.quiescent_ReferenceIdeal := fun m g _ =>
  (θ_run _ _ _).mono (fun r h => ⟨fun c => (h c).2.2, sem_eq_zero_of_no_sems (by decide) r.2⟩)
    (ReferenceIdeal.StepRun.run_iter m g (fun c => FpsEq.iter (m (c.tc.loc ReferenceIdeal.main_arg0))) (fun _ => rfl) (fun _ _ => rfl))

/-- The kernel and the reference, run from memories that agree on the arguments and hold finite coordinates, end with the
    same two results. -/
theorem same_results : Cert.algebraic_KernelIdeal_ReferenceIdeal_pre_finite_xyz := by
  intro m g m' g' hpre hm
  refine ⟨fun c => KernelIdeal.Fps.rows (FpsEq.coord (m (c.tc.loc KernelIdeal.main_arg0)) 0) (FpsEq.coord (m (c.tc.loc KernelIdeal.main_arg0)) 1)
      (FpsEq.coord (m (c.tc.loc KernelIdeal.main_arg0)) 2), fun c => KernelIdeal.Result2.result m c, ?_, ?_⟩
  · exact (θ_run _ _ _).mono (fun r h c => ⟨(h c).1.trans (KernelIdeal.Fps.final m g c),
      (h c).2.1.trans (KernelIdeal.Result2.final m g c (finite_of_pre _ (hpre c))), (h c).2.2⟩) (KernelIdeal.Run.run m g)
  · refine (θ_run _ _ _).mono (fun r h c => ⟨(h c).1.trans ?_, (h c).2.1.trans ?_, (h c).2.2⟩)
      (ReferenceIdeal.StepRun.run_iter m' g' (fun c => FpsEq.iter (m' (c.tc.loc ReferenceIdeal.main_arg0))) (fun _ => rfl) (fun _ _ => rfl))
    · rw [(hm c).1]
      exact sampled_eq _
    · obtain ⟨h0, h1, h2, h3, h4, h5, h6, h7⟩ := hm c
      rw [h0, h1, h2, h3, h4, h5, h6, h7]
      exact pooled_eq _ _ _ _ _ _ _ _

/-- Everything claimed: the frames, the idealization, and the equality of the results. -/
theorem claim : Cert.Claim :=
  ⟨Cert.Kernel.Gen.facts, Cert.KernelIdeal.Gen.facts, Cert.ReferenceIdeal.Gen.facts, finiteFacts,
    fun m g _ => Cert.Kernel.Gen.frame m g, fun m g _ => Cert.KernelIdeal.Gen.frame m g, fun m g _ => Cert.KernelIdeal.Gen.frame m g,
    reference_frame, fun m g _ => reference_frame m g trivial, trivial, same_results⟩

end Cert.Proof

end
